-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 8192, 4, 64]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 8192, 4, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_

variable [Facts]

def fn {F : FTy → Type} [FloatOps F] (main_arg0 : FVec F S2x256x512 .f32) (main_arg1 : FVec F S512x256 .f32) (main_arg2 : FVec F S2x256x4x64 .f32) (main_arg3 : FVec F S2x256x4x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x4x64 .f32 := Host.absf main_arg2
  let main_cst_2 : FVec F S_ .f32 := constant S_ .f32 0x7F800000#32
  let main_v10 : FVec F S2x256x4x64 .f32 := broadcastInDim S2x256x4x64 ![] bcast_S_S2x256x4x64 main_cst_2
  let main_v11 : IVec S2x256x4x64 1 := cmpf .olt main_v9 main_v10
  let main_c_3 : IVec S_ 1 := constantI S_ 1 1#1
  let main_v12 : IVec S_ 1 := (fun x v => Host.reduce IntOp.andi x v reducesTo_S2x256x4x64_S_d0_1_2_3 h_S_) main_v11 main_c_3
  let main_v13 : IVec S_ 1 := andi main_v8 main_v12
  main_v13
-- ==== Pre_finite_scores_ReferenceIdeal.lean ====
abbrev S2x256x512 : Shape := ⟨3, ![2, 256, 512]⟩
abbrev S512x256 : Shape := ⟨2, ![512, 256]⟩
abbrev S2x8192x4x64 : Shape := ⟨4, ![2, 8192, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x8192x4x64 : S_.BroadcastsInDim S2x8192x4x64 (![] : Fin 0 → Fin S2x8192x4x64.rank)
  reducesTo_S2x8192x4x64_S_d0_1_2_3 : S2x8192x4x64.ReducesTo [0, 1, 2, 3] S_

variable [Facts]

def fn {F : FTy → Type} [FloatOps F] (main_arg0 : FVec F S2x256x512 .f32) (main_arg1 : FVec F S512x256 .f32) (main_arg2 : FVec F S2x8192x4x64 .f32) (main_arg3 : FVec F S2x8192x4x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x8192x4x64 .f32 := Host.absf main_arg2
  let main_cst_2 : FVec F S_ .f32 := constant S_ .f32 0x7F800000#32
  let main_v10 : FVec F S2x8192x4x64 .f32 := broadcastInDim S2x8192x4x64 ![] bcast_S_S2x8192x4x64 main_cst_2
  let main_v11 : IVec S2x8192x4x64 1 := cmpf .olt main_v9 main_v10
  let main_c_3 : IVec S_ 1 := constantI S_ 1 1#1
  let main_v12 : IVec S_ 1 := (fun x v => Host.reduce IntOp.andi x v reducesTo_S2x8192x4x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S2x4x64x256 : Shape := ⟨4, ![2, 4, 64, 256]⟩
abbrev S8x256 : Shape := ⟨2, ![8, 256]⟩
abbrev S5x2x4x64x256 : Shape := ⟨5, ![5, 2, 4, 64, 256]⟩
abbrev S5x8x256 : Shape := ⟨3, ![5, 8, 256]⟩
abbrev S5 : Shape := ⟨1, ![5]⟩
abbrev S1x256x512 : Shape := ⟨3, ![1, 256, 512]⟩
abbrev S256x256 : Shape := ⟨2, ![256, 256]⟩
abbrev S64x64 : Shape := ⟨2, ![64, 64]⟩
abbrev S1x64x1x64 : Shape := ⟨4, ![1, 64, 1, 64]⟩
abbrev S1x1x64x64 : Shape := ⟨4, ![1, 1, 64, 64]⟩
abbrev S64 : Shape := ⟨1, ![64]⟩
abbrev S1x64 : Shape := ⟨2, ![1, 64]⟩
abbrev S_ : Shape := ⟨0, ![]⟩
abbrev S1 : Shape := ⟨1, ![1]⟩
abbrev S1x2x4x64x256 : Shape := ⟨5, ![1, 2, 4, 64, 256]⟩
abbrev S1x8x256 : Shape := ⟨3, ![1, 8, 256]⟩
abbrev S1x1x64x256 : Shape := ⟨4, ![1, 1, 64, 256]⟩
abbrev S64x256 : Shape := ⟨2, ![64, 256]⟩
abbrev S1x256 : Shape := ⟨2, ![1, 256]⟩
abbrev S64x512 : Shape := ⟨2, ![64, 512]⟩

abbrev nBuf : Space → Nat
  | .hbm => 6
  | .vmem => 11
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x4x64, .f32⟩
  | .hbm, ⟨3, _⟩ => ⟨S2x256x4x64, .f32⟩
  | .hbm, ⟨4, _⟩ => ⟨S256x512, .f32⟩
  | .hbm, ⟨5, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x4x64, .f32⟩
  | .local _ .vmem, ⟨3, _⟩ => ⟨S2x256x4x64, .f32⟩
  | .local _ .vmem, ⟨4, _⟩ => ⟨S256x512, .f32⟩
  | .local _ .vmem, ⟨5, _⟩ => ⟨S2x256x512, .f32⟩
  | .local _ .vmem, ⟨6, _⟩ => ⟨S2x4x64x256, .f32⟩
  | .local _ .vmem, ⟨7, _⟩ => ⟨S8x256, .f32⟩
  | .local _ .vmem, ⟨8, _⟩ => ⟨S2x4x64x256, .bf16⟩
  | .local _ .vmem, ⟨9, _⟩ => ⟨S5x2x4x64x256, .bf16⟩
  | .local _ .vmem, ⟨10, _⟩ => ⟨S5x8x256, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 2 → Bool
  | ⟨0, _⟩ => false
  | ⟨1, _⟩ => true
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 2 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_576 : BitVec 32 := 1#32
  let v589 : BitVec 32 := Scalar.xori v2 c1_i32_576
  let c1_i32_578 : BitVec 32 := 1#32
  let v595 : BitVec 32 := Scalar.muli v589 c1_i32_578
  let v596 : BitVec 32 := Scalar.addi c0_i32 v595
  v596.toNat
def k0_dev2 (d0 : Dev nD) : Nat :=
  let c0_i32_581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v590 : BitVec 32 := Scalar.xori v2 c2_i32
  let c1_i32_580 : BitVec 32 := 1#32
  let v597 : BitVec 32 := Scalar.muli v590 c1_i32_580
  let v598 : BitVec 32 := Scalar.addi c0_i32_581 v597
  v598.toNat
def k0_dev3 (d0 : Dev nD) : Nat :=
  let c0_i32_584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v591 : BitVec 32 := Scalar.xori v2 c4_i32
  let c1_i32_583 : BitVec 32 := 1#32
  let v599 : BitVec 32 := Scalar.muli v591 c1_i32_583
  let v600 : BitVec 32 := Scalar.addi c0_i32_584 v599
  v600.toNat
def k0_dev4 (d0 : Dev nD) : Nat :=
  let c0_i32_587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v592 : BitVec 32 := Scalar.xori v2 c8_i32
  let c1_i32_586 : BitVec 32 := 1#32
  let v601 : BitVec 32 := Scalar.muli v592 c1_i32_586
  let v602 : BitVec 32 := Scalar.addi c0_i32_587 v601
  v602.toNat
def k0_dev5 (d0 : Dev nD) : Nat :=
  let c0_i32_590 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v593 : BitVec 32 := Scalar.xori v2 c16_i32
  let c1_i32_589 : BitVec 32 := 1#32
  let v603 : BitVec 32 := Scalar.muli v593 c1_i32_589
  let v604 : BitVec 32 := Scalar.addi c0_i32_590 v603
  v604.toNat
def k0_dev6 (d0 : Dev nD) : Nat :=
  let c0_i32_603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_576 : BitVec 32 := 1#32
  let v589 : BitVec 32 := Scalar.xori v2 c1_i32_576
  let c1_i32_602 : BitVec 32 := 1#32
  let v610 : BitVec 32 := Scalar.muli v589 c1_i32_602
  let v611 : BitVec 32 := Scalar.addi c0_i32_603 v610
  v611.toNat
def k0_dev7 (d0 : Dev nD) : Nat :=
  let c0_i32_612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_576 : BitVec 32 := 1#32
  let v589 : BitVec 32 := Scalar.xori v2 c1_i32_576
  let c1_i32_611 : BitVec 32 := 1#32
  let v618 : BitVec 32 := Scalar.muli v589 c1_i32_611
  let v619 : BitVec 32 := Scalar.addi c0_i32_612 v618
  v619.toNat
def k0_dev8 (d0 : Dev nD) : Nat :=
  let c0_i32_677 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v590 : BitVec 32 := Scalar.xori v2 c2_i32
  let c1_i32_676 : BitVec 32 := 1#32
  let v666 : BitVec 32 := Scalar.muli v590 c1_i32_676
  let v667 : BitVec 32 := Scalar.addi c0_i32_677 v666
  v667.toNat
def k0_dev9 (d0 : Dev nD) : Nat :=
  let c0_i32_686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v590 : BitVec 32 := Scalar.xori v2 c2_i32
  let c1_i32_685 : BitVec 32 := 1#32
  let v674 : BitVec 32 := Scalar.muli v590 c1_i32_685
  let v675 : BitVec 32 := Scalar.addi c0_i32_686 v674
  v675.toNat
def k0_dev10 (d0 : Dev nD) : Nat :=
  let c0_i32_751 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v591 : BitVec 32 := Scalar.xori v2 c4_i32
  let c1_i32_750 : BitVec 32 := 1#32
  let v722 : BitVec 32 := Scalar.muli v591 c1_i32_750
  let v723 : BitVec 32 := Scalar.addi c0_i32_751 v722
  v723.toNat
def k0_dev11 (d0 : Dev nD) : Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v591 : BitVec 32 := Scalar.xori v2 c4_i32
  let c1_i32_759 : BitVec 32 := 1#32
  let v730 : BitVec 32 := Scalar.muli v591 c1_i32_759
  let v731 : BitVec 32 := Scalar.addi c0_i32_760 v730
  v731.toNat
def k0_dev12 (d0 : Dev nD) : Nat :=
  let c0_i32_824 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v592 : BitVec 32 := Scalar.xori v2 c8_i32
  let c1_i32_823 : BitVec 32 := 1#32
  let v778 : BitVec 32 := Scalar.muli v592 c1_i32_823
  let v779 : BitVec 32 := Scalar.addi c0_i32_824 v778
  v779.toNat
def k0_dev13 (d0 : Dev nD) : Nat :=
  let c0_i32_833 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v592 : BitVec 32 := Scalar.xori v2 c8_i32
  let c1_i32_832 : BitVec 32 := 1#32
  let v786 : BitVec 32 := Scalar.muli v592 c1_i32_832
  let v787 : BitVec 32 := Scalar.addi c0_i32_833 v786
  v787.toNat
def k0_dev14 (d0 : Dev nD) : Nat :=
  let c0_i32_898 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v593 : BitVec 32 := Scalar.xori v2 c16_i32
  let c1_i32_897 : BitVec 32 := 1#32
  let v834 : BitVec 32 := Scalar.muli v593 c1_i32_897
  let v835 : BitVec 32 := Scalar.addi c0_i32_898 v834
  v835.toNat
def k0_dev15 (d0 : Dev nD) : Nat :=
  let c0_i32_907 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v593 : BitVec 32 := Scalar.xori v2 c16_i32
  let c1_i32_906 : BitVec 32 := 1#32
  let v842 : BitVec 32 := Scalar.muli v593 c1_i32_906
  let v843 : BitVec 32 := Scalar.addi c0_i32_907 v842
  v843.toNat
def k0_dev16 (d0 : Dev nD) : Nat :=
  let c0_i32_1042_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_576 : BitVec 32 := 1#32
  let v589 : BitVec 32 := Scalar.xori v2 c1_i32_576
  let c1_i32_1041_r0 : BitVec 32 := 1#32
  let v966_r0 : BitVec 32 := Scalar.muli v589 c1_i32_1041_r0
  let v967_r0 : BitVec 32 := Scalar.addi c0_i32_1042_r0 v966_r0
  v967_r0.toNat
def k0_dev17 (d0 : Dev nD) : Nat :=
  let c0_i32_1045_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v590 : BitVec 32 := Scalar.xori v2 c2_i32
  let c1_i32_1044_r0 : BitVec 32 := 1#32
  let v968_r0 : BitVec 32 := Scalar.muli v590 c1_i32_1044_r0
  let v969_r0 : BitVec 32 := Scalar.addi c0_i32_1045_r0 v968_r0
  v969_r0.toNat
def k0_dev18 (d0 : Dev nD) : Nat :=
  let c0_i32_1048_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v591 : BitVec 32 := Scalar.xori v2 c4_i32
  let c1_i32_1047_r0 : BitVec 32 := 1#32
  let v970_r0 : BitVec 32 := Scalar.muli v591 c1_i32_1047_r0
  let v971_r0 : BitVec 32 := Scalar.addi c0_i32_1048_r0 v970_r0
  v971_r0.toNat
def k0_dev19 (d0 : Dev nD) : Nat :=
  let c0_i32_1051_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v592 : BitVec 32 := Scalar.xori v2 c8_i32
  let c1_i32_1050_r0 : BitVec 32 := 1#32
  let v972_r0 : BitVec 32 := Scalar.muli v592 c1_i32_1050_r0
  let v973_r0 : BitVec 32 := Scalar.addi c0_i32_1051_r0 v972_r0
  v973_r0.toNat
def k0_dev20 (d0 : Dev nD) : Nat :=
  let c0_i32_1054_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v593 : BitVec 32 := Scalar.xori v2 c16_i32
  let c1_i32_1053_r0 : BitVec 32 := 1#32
  let v974_r0 : BitVec 32 := Scalar.muli v593 c1_i32_1053_r0
  let v975_r0 : BitVec 32 := Scalar.addi c0_i32_1054_r0 v974_r0
  v975_r0.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x256 : Shape := ⟨2, ![512, 256]⟩
abbrev S2x8192x4x64 : Shape := ⟨4, ![2, 8192, 4, 64]⟩
abbrev S256x512 : Shape := ⟨2, ![256, 512]⟩
abbrev S2x256x256 : Shape := ⟨3, ![2, 256, 256]⟩
abbrev S2x256x4x64 : Shape := ⟨4, ![2, 256, 4, 64]⟩
abbrev S256 : Shape := ⟨1, ![256]⟩
abbrev S_ : Shape := ⟨0, ![]⟩
abbrev S256x1 : Shape := ⟨2, ![256, 1]⟩
abbrev S8192 : Shape := ⟨1, ![8192]⟩
abbrev S1x8192 : Shape := ⟨2, ![1, 8192]⟩
abbrev S256x8192 : Shape := ⟨2, ![256, 8192]⟩
abbrev S2x4x256x8192 : Shape := ⟨4, ![2, 4, 256, 8192]⟩
abbrev S1x1x256x8192 : Shape := ⟨4, ![1, 1, 256, 8192]⟩
abbrev S2x4x256 : Shape := ⟨3, ![2, 4, 256]⟩
abbrev S2x4x256x1 : Shape := ⟨4, ![2, 4, 256, 1]⟩
abbrev S1x1x256x1 : Shape := ⟨4, ![1, 1, 256, 1]⟩
abbrev S2x4x64x256 : Shape := ⟨4, ![2, 4, 64, 256]⟩

abbrev nBuf : Space → Nat
  | .hbm => 137
  | .vmem => 0
  | .smem => 0
  | _ => 0

abbrev hbmTy0_0 (i : Nat) : BufTy := match i % 128 with
  | 0 => ⟨S2x256x512, .f32⟩
  | 1 => ⟨S512x256, .f32⟩
  | 2 => ⟨S2x8192x4x64, .f32⟩
  | 3 => ⟨S2x8192x4x64, .f32⟩
  | 4 => ⟨S256x512, .f32⟩
  | 5 => ⟨S2x256x256, .f32⟩
  | 6 => ⟨S2x256x4x64, .f32⟩
  | 7 => ⟨S256, .i32⟩
  | 8 => ⟨S_, .i32⟩
  | 9 => ⟨S_, .i32⟩
  | 10 => ⟨S256, .i32⟩
  | 11 => ⟨S256, .i32⟩
  | 12 => ⟨S256, .i32⟩
  | 13 => ⟨S_, .i32⟩
  | 14 => ⟨S256, .i32⟩
  | 15 => ⟨S256, .i1⟩
  | 16 => ⟨S256, .i32⟩
  | 17 => ⟨S256, .i32⟩
  | 18 => ⟨S_, .i32⟩
  | 19 => ⟨S256, .i32⟩
  | 20 => ⟨S256, .i1⟩
  | 21 => ⟨S256, .i1⟩
  | 22 => ⟨S_, .i32⟩
  | 23 => ⟨S256, .i32⟩
  | 24 => ⟨S256, .i32⟩
  | 25 => ⟨S256, .i32⟩
  | 26 => ⟨S256x1, .i32⟩
  | 27 => ⟨S8192, .i32⟩
  | 28 => ⟨S_, .i32⟩
  | 29 => ⟨S_, .i32⟩
  | 30 => ⟨S8192, .i32⟩
  | 31 => ⟨S8192, .i32⟩
  | 32 => ⟨S8192, .i32⟩
  | 33 => ⟨S_, .i32⟩
  | 34 => ⟨S8192, .i32⟩
  | 35 => ⟨S8192, .i1⟩
  | 36 => ⟨S8192, .i32⟩
  | 37 => ⟨S8192, .i32⟩
  | 38 => ⟨S_, .i32⟩
  | 39 => ⟨S8192, .i32⟩
  | 40 => ⟨S8192, .i1⟩
  | 41 => ⟨S8192, .i1⟩
  | 42 => ⟨S_, .i32⟩
  | 43 => ⟨S8192, .i32⟩
  | 44 => ⟨S8192, .i32⟩
  | 45 => ⟨S8192, .i32⟩
  | 46 => ⟨S1x8192, .i32⟩
  | 47 => ⟨S256x8192, .i32⟩
  | 48 => ⟨S256x8192, .i32⟩
  | 49 => ⟨S256x8192, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x8192, .i32⟩
  | 57 => ⟨S1x8192, .i32⟩
  | 58 => ⟨S_, .i32⟩
  | 59 => ⟨S1x8192, .i32⟩
  | 60 => ⟨S1x8192, .i1⟩
  | 61 => ⟨S_, .i32⟩
  | 62 => ⟨S1x8192, .i32⟩
  | 63 => ⟨S1x8192, .i1⟩
  | 64 => ⟨S_, .i32⟩
  | 65 => ⟨S_, .i1⟩
  | 66 => ⟨S1x8192, .i1⟩
  | 67 => ⟨S1x8192, .i1⟩
  | 68 => ⟨S1x8192, .i1⟩
  | 69 => ⟨S1x8192, .i32⟩
  | 70 => ⟨S1x8192, .i32⟩
  | 71 => ⟨S1x8192, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S256x1, .i32⟩
  | 79 => ⟨S256x1, .i32⟩
  | 80 => ⟨S_, .i32⟩
  | 81 => ⟨S256x1, .i32⟩
  | 82 => ⟨S256x1, .i1⟩
  | 83 => ⟨S_, .i32⟩
  | 84 => ⟨S256x1, .i32⟩
  | 85 => ⟨S256x1, .i1⟩
  | 86 => ⟨S_, .i32⟩
  | 87 => ⟨S_, .i1⟩
  | 88 => ⟨S256x1, .i1⟩
  | 89 => ⟨S256x1, .i1⟩
  | 90 => ⟨S256x1, .i1⟩
  | 91 => ⟨S256x1, .i32⟩
  | 92 => ⟨S256x1, .i32⟩
  | 93 => ⟨S256x1, .i32⟩
  | 94 => ⟨S256x8192, .i32⟩
  | 95 => ⟨S256x8192, .i32⟩
  | 96 => ⟨S256x8192, .i1⟩
  | 97 => ⟨S256x8192, .i1⟩
  | 98 => ⟨S2x4x256x8192, .f32⟩
  | 99 => ⟨S_, .f32⟩
  | 100 => ⟨S2x4x256x8192, .f32⟩
  | 101 => ⟨S2x4x256x8192, .f32⟩
  | 102 => ⟨S1x1x256x8192, .i1⟩
  | 103 => ⟨S_, .f32⟩
  | 104 => ⟨S_, .f32⟩
  | 105 => ⟨S2x4x256x8192, .i1⟩
  | 106 => ⟨S2x4x256x8192, .f32⟩
  | 107 => ⟨S2x4x256x8192, .f32⟩
  | 108 => ⟨S_, .f32⟩
  | 109 => ⟨S2x4x256, .f32⟩
  | 110 => ⟨S2x4x256x1, .f32⟩
  | 111 => ⟨S2x4x256x8192, .f32⟩
  | 112 => ⟨S2x4x256x8192, .f32⟩
  | 113 => ⟨S2x4x256x8192, .f32⟩
  | 114 => ⟨S_, .i1⟩
  | 115 => ⟨S256, .i1⟩
  | 116 => ⟨S1x1x256x1, .i1⟩
  | 117 => ⟨S_, .f32⟩
  | 118 => ⟨S2x4x256, .f32⟩
  | 119 => ⟨S2x4x256x1, .f32⟩
  | 120 => ⟨S_, .f32⟩
  | 121 => ⟨S_, .f32⟩
  | 122 => ⟨S2x4x256x1, .i1⟩
  | 123 => ⟨S2x4x256x1, .f32⟩
  | 124 => ⟨S2x4x256x1, .f32⟩
  | 125 => ⟨S2x4x256x8192, .f32⟩
  | 126 => ⟨S2x4x256x8192, .f32⟩
  | 127 => ⟨S1x1x256x1, .i1⟩
  | _ => ⟨S2x256x512, .f32⟩

abbrev hbmTy0_1 (i : Nat) : BufTy := match i % 128 with
  | 0 => ⟨S_, .f32⟩
  | 1 => ⟨S_, .f32⟩
  | 2 => ⟨S2x4x256x8192, .i1⟩
  | 3 => ⟨S2x4x256x8192, .f32⟩
  | 4 => ⟨S2x4x256x8192, .f32⟩
  | 5 => ⟨S2x4x64x256, .f32⟩
  | 6 => ⟨S2x256x4x64, .f32⟩
  | 7 => ⟨S2x256x256, .f32⟩
  | 8 => ⟨S2x256x512, .f32⟩
  | _ => ⟨S2x256x512, .f32⟩

abbrev hbmTy (i : Nat) : BufTy := match i / 128 with
  | 0 => hbmTy0_0 i
  | 1 => hbmTy0_1 i
  | _ => ⟨S2x256x512, .f32⟩

abbrev bufTy : (tb : Table) → Fin (tcTables nBuf tb) → BufTy
  | .hbm, ⟨i, _⟩ => hbmTy i
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.KernelIdeal.Sched.lean ====
/-
# The protocol of the all-reduce, as data

Thirty-two devices sit on a five-dimensional hypercube: in stage `s` device `c` exchanges its numerators and its
denominators with device `p s c`, whose number differs from `c`'s in bit `s` only. This module names the semaphore
cells of a device, says who pays what into each of them and with which part of memory, and proves the tables of
that schedule. The contents exchanged are parameters here: `ns s c` is the block of rounded numerators device `c`
sends in stage `s` and `dn s c` its denominators.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the launch's own copy and the protocol's, whose duties are the five stages -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The hypercube -/

/-- The partner of device `c` in stage `s`: bit `s` of its number flipped. -/
def p (s : ℕ) (c : Dev nD) : Dev nD := ⟨(c.val ^^^ 2 ^ s) % 32, Nat.mod_lt _ (by decide)⟩

theorem p_p5 : ∀ (s : Fin 5) (c : Dev nD), p s.1 (p s.1 c) = c := by decide +kernel
theorem p_p (s : ℕ) (h : s < 5) (c : Dev nD) : p s (p s c) = c := p_p5 ⟨s, h⟩ c

/-- The exchange of stage `s` as a permutation of the devices. -/
def pEquiv (s : Fin 5) : Dev nD ≃ Dev nD := ⟨p s.1, p s.1, p_p s.1 s.2, p_p s.1 s.2⟩

/-! ## Buffers, slots, semaphores -/

theorem inb_sem (s : ℕ) (h : s < 5) : ∀ a, (![s] : Fin 1 → Nat) a + S1.size a ≤ S5.size a := by
  intro a; match a with
  | 0 => show s + 1 ≤ 5; omega
theorem inb_n (s : ℕ) (h : s < 5) : ∀ a, (![s, 0, 0, 0, 0] : Fin 5 → Nat) a + S1x2x4x64x256.size a ≤ S5x2x4x64x256.size a := by
  intro a; match a with
  | 0 => show s + 1 ≤ 5; omega
  | 1 => exact le_refl _
  | 2 => exact le_refl _
  | 3 => exact le_refl _
  | 4 => exact le_refl _
theorem inb_d (s : ℕ) (h : s < 5) : ∀ a, (![s, 0, 0] : Fin 3 → Nat) a + S1x8x256.size a ≤ S5x8x256.size a := by
  intro a; match a with
  | 0 => show s + 1 ≤ 5; omega
  | 1 => exact le_refl _
  | 2 => exact le_refl _

abbrev numM : Memref sig .tc .vmem S2x4x64x256 .f32 := Memref.whole cc0_scratch0
abbrev denM : Memref sig .tc .vmem S8x256 .f32 := Memref.whole cc0_scratch1
abbrev nsM : Memref sig .tc .vmem S2x4x64x256 .bf16 := Memref.whole cc0_scratch2
abbrev nrM : Memref sig .tc .vmem S5x2x4x64x256 .bf16 := Memref.whole cc0_scratch3
abbrev drM : Memref sig .tc .vmem S5x8x256 .f32 := Memref.whole cc0_scratch4

abbrev nrR (s : ℕ) (h : s < 5) : Rect S5x2x4x64x256 := Rect.unit (s := S5x2x4x64x256) ![s, 0, 0, 0, 0] S1x2x4x64x256.size (inb_n s h)
abbrev drR (s : ℕ) (h : s < 5) : Rect S5x8x256 := Rect.unit (s := S5x8x256) ![s, 0, 0] S1x8x256.size (inb_d s h)

/-- Stage `s`'s part of the buffer the numerators land in, and of the one the denominators land in. -/
abbrev nslot (s : ℕ) (h : s < 5) : Memref sig .tc .vmem S2x4x64x256 .bf16 :=
  (nrM.slice (nrR s h) (fun _ => rfl)).squeeze S2x4x64x256 squeezes_S1x2x4x64x256_S2x4x64x256
abbrev dslot (s : ℕ) (h : s < 5) : Memref sig .tc .vmem S8x256 .f32 :=
  (drM.slice (drR s h) (fun _ => rfl)).squeeze S8x256 squeezes_S1x8x256_S8x256

abbrev semOf (A : DmaSems sig S5) (s : ℕ) (h : s < 5) : DmaSem sig :=
  ((A.slice (Rect.unit (s := S5) ![s] S1.size (inb_sem s h))).squeeze S_ squeezes_S1_S_).sem

abbrev barS : Sem sig := (SemArray.scalar (sig.barrier 0 rfl) : Sems sig S_).sem
abbrev exitS : Sem sig := cc0_scoped0.sem
abbrev nsS (s : ℕ) (h : s < 5) : DmaSem sig := semOf cc0_scratch5 s h
abbrev nrS (s : ℕ) (h : s < 5) : DmaSem sig := semOf cc0_scratch6 s h
abbrev dsS (s : ℕ) (h : s < 5) : DmaSem sig := semOf cc0_scratch7 s h
abbrev drS (s : ℕ) (h : s < 5) : DmaSem sig := semOf cc0_scratch8 s h

abbrev barC (c : Dev nD) : GSem nD τ sig := ((c : Thread nD τ), .reg barS)
abbrev exitC (c : Dev nD) : GSem nD τ sig := ((c : Thread nD τ), .reg exitS)
abbrev nsC (s : ℕ) (h : s < 5) (c : Dev nD) : GSem nD τ sig := ((c : Thread nD τ), .dma (nsS s h))
abbrev nrC (s : ℕ) (h : s < 5) (c : Dev nD) : GSem nD τ sig := ((c : Thread nD τ), .dma (nrS s h))
abbrev dsC (s : ℕ) (h : s < 5) (c : Dev nD) : GSem nD τ sig := ((c : Thread nD τ), .dma (dsS s h))
abbrev drC (s : ℕ) (h : s < 5) (c : Dev nD) : GSem nD τ sig := ((c : Thread nD τ), .dma (drS s h))

/-- The cells of one device: its barrier and exit semaphores, and per stage the four transfer semaphores. -/
inductive CK where
  | bar | exit
  | ns (s : Fin 5) | nr (s : Fin 5) | ds (s : Fin 5) | dr (s : Fin 5)
  deriving DecidableEq

def CK.ofSum : Bool ⊕ (Fin 4 × Fin 5) → CK
  | .inl false => .bar
  | .inl true => .exit
  | .inr (0, s) => .ns s
  | .inr (1, s) => .nr s
  | .inr (2, s) => .ds s
  | .inr (3, s) => .dr s

def CK.toSum : CK → Bool ⊕ (Fin 4 × Fin 5)
  | .bar => .inl false
  | .exit => .inl true
  | .ns s => .inr (0, s)
  | .nr s => .inr (1, s)
  | .ds s => .inr (2, s)
  | .dr s => .inr (3, s)

theorem CK.of_to (k : CK) : CK.ofSum (CK.toSum k) = k := by cases k <;> rfl
theorem CK.to_of (x : Bool ⊕ (Fin 4 × Fin 5)) : CK.toSum (CK.ofSum x) = x := by revert x; decide

instance : Fintype CK := Fintype.ofEquiv _ (⟨CK.ofSum, CK.toSum, CK.to_of, CK.of_to⟩ : Bool ⊕ (Fin 4 × Fin 5) ≃ CK)

/-- All cells of a device, listed. -/
abbrev ckList : List CK :=
  [.bar, .exit, .ns 0, .nr 0, .ds 0, .dr 0, .ns 1, .nr 1, .ds 1, .dr 1, .ns 2, .nr 2, .ds 2, .dr 2,
    .ns 3, .nr 3, .ds 3, .dr 3, .ns 4, .nr 4, .ds 4, .dr 4]

abbrev csem : CK → SemLoc sig
  | .bar => .reg barS
  | .exit => .reg exitS
  | .ns s => .dma (nsS s.1 s.2)
  | .nr s => .dma (nrS s.1 s.2)
  | .ds s => .dma (dsS s.1 s.2)
  | .dr s => .dma (drS s.1 s.2)

theorem csem_injective : Function.Injective csem := by decide +kernel

abbrev cell (c : Dev nD) (k : CK) : GSem nD τ sig := ((c : Thread nD τ), csem k)

/-- Which of a device's cells a semaphore is, if any. -/
def kind (x : SemLoc sig) : Option CK := open scoped Classical in if h : ∃ k, csem k = x then some h.choose else none

theorem kind_csem (k : CK) : kind (csem k) = some k := by
  unfold kind
  have h : ∃ k', csem k' = csem k := ⟨k, rfl⟩
  rw [dif_pos h]; exact congrArg some (csem_injective h.choose_spec)

theorem kind_none (x : SemLoc sig) (h : ∀ k, csem k ≠ x) : kind x = none := by
  unfold kind; exact dif_neg fun ⟨k, hk⟩ => h k hk

/-! ## The schedule -/

/-- The credit of one transfer of the numerators, and of one of the denominators. -/
abbrev NN : ℕ := nsM.view.dmaCredit
abbrev ND : ℕ := denM.view.dmaCredit
theorem NN_pos : 0 < NN := View.dmaCredit_pos _ (by decide)
theorem ND_pos : 0 < ND := View.dmaCredit_pos _ (by decide)

def amt : CK → ℕ
  | .bar => 1
  | .exit => 1
  | .ns _ => NN
  | .nr _ => NN
  | .ds _ => ND
  | .dr _ => ND

theorem amt_pos (k : CK) : 0 < amt k := by
  cases k <;> first | exact Nat.one_pos | exact NN_pos | exact ND_pos

def dutiesOf : CK → Finset (Fin 5)
  | .bar => Finset.univ
  | .exit => Finset.univ
  | _ => {0}

/-- What a wait of device `c` receives in the whole round. -/
def total : CK → ℕ
  | .bar => 5
  | .exit => 5
  | k => amt k

variable (ns : ℕ → Dev nD → Vec F S2x4x64x256 .bf16) (dn : ℕ → Dev nD → Vec F S8x256 .f32)

/-- Device `c`'s buffer of outgoing numerators, of denominators, at given contents. -/
abbrev nsPts (c : Dev nD) (X : Vec F S2x4x64x256 .bf16) : sProp 𝕄 :=
  nsM.view.loc (c : Thread nD τ) ↦[nsM.view.set]{fullShare} (X : Buf (Elt F) (nsM.view.loc (c : Thread nD τ)))
abbrev denPts (c : Dev nD) (X : Vec F S8x256 .f32) : sProp 𝕄 :=
  denM.view.loc (c : Thread nD τ) ↦[denM.view.set]{fullShare} (X : Buf (Elt F) (denM.view.loc (c : Thread nD τ)))
abbrev numPts (c : Dev nD) (X : Vec F S2x4x64x256 .f32) : sProp 𝕄 :=
  numM.view.loc (c : Thread nD τ) ↦[numM.view.set]{fullShare} (X : Buf (Elt F) (numM.view.loc (c : Thread nD τ)))
/-- A landing slot of device `c`, reading as given. -/
abbrev nOwn (s : ℕ) (h : s < 5) (c : Dev nD) (X : Vec F S2x4x64x256 .bf16) : sProp 𝕄 :=
  owns (Ix := Unit) (Name := ℕ) (U := UU) (Lvl := ℕ) (c : Thread nD τ) (nslot s h) fullShare X
abbrev dOwn (s : ℕ) (h : s < 5) (c : Dev nD) (X : Vec F S8x256 .f32) : sProp 𝕄 :=
  owns (Ix := Unit) (Name := ℕ) (U := UU) (Lvl := ℕ) (c : Thread nD τ) (dslot s h) fullShare X

/-- What the signal of stage `s`'s partner hands over at the barrier: that partner's two landing slots of the stage. -/
def slots (s : ℕ) (h : s < 5) (c : Dev nD) : sProp 𝕄 := iprop((∃ X, nOwn s h c X) ∗ (∃ X, dOwn s h c X))

def payOf (c : Dev nD) (d : Fin 5) : CK → sProp 𝕄
  | .bar => slots d.1 d.2 (p d.1 c)
  | .exit => iprop(emp)
  | .ns s => nsPts c (ns s.1 c)
  | .nr s => nOwn s.1 s.2 c (ns s.1 (p s.1 c))
  | .ds s => denPts c (dn s.1 c)
  | .dr s => dOwn s.1 s.2 c (dn s.1 (p s.1 c))

instance payOf_storable (c : Dev nD) (d : Fin 5) (k : CK) : BI.Storable (upEmb : UEmb _ 𝕄) (payOf (F := F) ns dn c d k) := by
  cases k <;> unfold payOf slots <;> infer_instance

/-- One round: at the barrier and at the exit one unit from each of the five partners; at a transfer's cell the one
    payment of that transfer. -/
def Rd : Rounds.Schedule (GSem nD τ sig) (Fin 5) 𝕄 where
  duties g r := if r = 0 ∧ g.1.2 = .tc then (kind g.2).elim ∅ dutiesOf else ∅
  unitless _ := False
  amount g _ _ := (kind g.2).elim 1 amt
  payload g _ d := (kind g.2).elim iprop(emp) (payOf ns dn g.1.1 d)
  amount_pos g _ _ _ := by
    cases h : kind g.2 with
    | none => exact Nat.one_pos
    | some k => exact amt_pos k

instance Rd_payload_storable (g : GSem nD τ sig) (r : ℕ) (d : Fin 5) :
    BI.Storable (upEmb : UEmb _ 𝕄) ((Rd (F := F) ns dn).payload g r d) := by
  show BI.Storable upEmb ((kind g.2).elim iprop(emp) (payOf ns dn g.1.1 d))
  cases kind g.2 with
  | none => show BI.Storable upEmb iprop(emp); infer_instance
  | some k => exact payOf_storable ns dn g.1.1 d k

section Tables
variable (c : Dev nD) (k : CK)

theorem duties_eq : (Rd (F := F) ns dn).duties (cell c k) 0 = dutiesOf k := by
  dsimp only [Rd]; rw [if_pos ⟨rfl, rfl⟩, kind_csem]; rfl
theorem duties_later (g : GSem nD τ sig) : ∀ r, 1 ≤ r → (Rd (F := F) ns dn).duties g r = ∅ :=
  fun r hr => if_neg fun h => by omega
theorem amount_eq (d : Fin 5) : (Rd (F := F) ns dn).amount (cell c k) 0 d = amt k := by
  show (kind (csem k)).elim 1 amt = _; rw [kind_csem]; rfl
theorem payload_eq (d : Fin 5) : (Rd (F := F) ns dn).payload (cell c k) 0 d = payOf ns dn c d k := by
  show (kind (csem k)).elim iprop(emp) (payOf ns dn c d) = _; rw [kind_csem]; rfl
theorem expect_eq : (Rd (F := F) ns dn).expect (cell c k) 0 = total k := by
  unfold Schedule.expect Schedule.amountOf
  rw [duties_eq, Finset.sum_congr rfl fun d _ => amount_eq ns dn c k d]
  cases k <;> first
    | (show ∑ _ ∈ (Finset.univ : Finset (Fin 5)), 1 = 5; rfl)
    | exact Finset.sum_singleton _ _

theorem rest_eq : bigSep ((Rd (F := F) ns dn).duties (cell c k) 0 \ ∅) (fun d => (Rd ns dn).payload (cell c k) 0 d)
    = bigSep (dutiesOf k) fun d => payOf ns dn c d k := by
  rw [Finset.sdiff_empty, duties_eq]; exact bigSep_congr fun d _ => payload_eq ns dn c k d

theorem rest_bar : bigSep ((Rd (F := F) ns dn).duties (cell c .bar) 0 \ ∅) (fun d => (Rd ns dn).payload (cell c .bar) 0 d)
    = iprop(slots 0 (by decide) (p 0 c) ∗ slots 1 (by decide) (p 1 c) ∗ slots 2 (by decide) (p 2 c) ∗ slots 3 (by decide) (p 3 c)
        ∗ slots 4 (by decide) (p 4 c)) := by
  rw [rest_eq]
  exact bigSep_univ_eq_bigSepL [0, 1, 2, 3, 4] (by decide) (by decide) _

end Tables

/-! ## What a device owes, in the order it pays; the levels -/

/-- The payments a device makes into other devices' cells, in program order: the stage and the cell. -/
abbrev payT : List (ℕ × CK) :=
  [(0, .bar), (1, .bar), (2, .bar), (3, .bar), (4, .bar),
    (0, .nr 0), (0, .dr 0), (1, .nr 1), (1, .dr 1), (2, .nr 2), (2, .dr 2), (3, .nr 3), (3, .dr 3), (4, .nr 4), (4, .dr 4),
    (0, .exit), (1, .exit), (2, .exit), (3, .exit), (4, .exit)]

def owed (c : Dev nD) : List (ℕ × CK) → CellTallies nD τ sig Unit
  | [] => 0
  | x :: xs => owed c xs + tallyAt (cell (p x.1 c) x.2) () (amt x.2)

def O₀ (c : Dev nD) : CellTallies nD τ sig Unit := owed c payT

def lvK : CK → ℕ
  | .bar => 1
  | .exit => 20
  | .ns _ => 0
  | .nr s => 2 + s.1
  | .ds _ => 0
  | .dr s => 2 + s.1

def L (g : GSem nD τ sig) : Finset Unit := if g.1.2 = .tc then {()} else ∅
def lv (g : GSem nD τ sig) (_ : Unit) : ℕ := (kind g.2).elim 0 lvK

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) (u : Unit) : lv (cell c k) u = lvK k := by
  show (kind (csem k)).elim 0 lvK = _; rw [kind_csem]; rfl

theorem cell_eq_iff {a b : Dev nD} {k k' : CK} : cell a k = cell b k' ↔ a = b ∧ k = k' :=
  ⟨fun h => ⟨Fin.ext (congrArg (fun g : GSem nD τ sig => g.1.1.val) h), csem_injective (congrArg Prod.snd h)⟩, fun ⟨h, h'⟩ => by rw [h, h']⟩

theorem owed_pos {c : Dev nD} {g : GSem nD τ sig} {u : Unit} : ∀ {t : List (ℕ × CK)}, 0 < owed c t g u →
    ∃ x ∈ t, g = cell (p x.1 c) x.2
  | [], h => absurd h (Nat.lt_irrefl 0)
  | x :: xs, h => by
    by_cases hg : g = cell (p x.1 c) x.2
    · exact ⟨x, List.mem_cons_self, hg⟩
    · unfold owed at h
      rw [Pi.add_apply, Finsupp.add_apply, tallyAt_apply, if_neg fun h' => hg h'.1, Nat.add_zero] at h
      obtain ⟨y, hy, e⟩ := owed_pos h
      exact ⟨y, List.mem_cons_of_mem _ hy, e⟩

theorem lvOf_le_of {sm : SemLoc sig} {c : Dev nD} {n : ℕ} (h : (kind sm).elim 0 lvK = n) : lv ((c : Thread nD τ), sm) () = n := h

/-- A device may wait on its cell while everything it still owes lies at a higher level. -/
theorem mayWait_of (c : Dev nD) (sm : SemLoc sig) (n : ℕ) (hn : (kind sm).elim 0 lvK = n) (t : List (ℕ × CK)) (ht : ∀ x ∈ t, n < lvK x.2) :
    (levAts L lv : sProp 𝕄) ⊢ MayWait (c : Thread nD τ) sm () (owed c t) :=
  MayOwe.of_cut (L := L) (lev := lv) n (fun q hq => by rw [Finset.mem_singleton.mp hq, L_tc]; exact Finset.mem_singleton_self _)
    (fun g u hg => by obtain ⟨x, -, rfl⟩ := owed_pos hg; exact Finset.mem_singleton_self _)
    (fun q hq => by rw [Finset.mem_singleton.mp hq]; exact le_of_eq hn)
    (fun g u hg => by obtain ⟨x, hx, rfl⟩ := owed_pos hg; rw [lv_cell]; exact ht x hx)

theorem mayWait_cell (c : Dev nD) (k : CK) (t : List (ℕ × CK)) (ht : ∀ x ∈ t, lvK k < lvK x.2) :
    (levAts L lv : sProp 𝕄) ⊢ MayWait (c : Thread nD τ) (csem k) () (owed c t) :=
  mayWait_of c (csem k) (lvK k) (by rw [kind_csem]; rfl) t ht

/-! ## The credit a cell is launched with: what all devices together owe it -/

theorem owed_at (d c : Dev nD) (k : CK) : ∀ t : List (ℕ × CK), (∀ x ∈ t, x.1 < 5) →
    owed d t (cell c k) () = (t.map fun x => if x.2 = k ∧ d = p x.1 c then amt k else 0).sum
  | [], _ => rfl
  | x :: xs, h => by
    have hx := h x List.mem_cons_self
    rw [owed, Pi.add_apply, Finsupp.add_apply, owed_at d c k xs fun y hy => h y (List.mem_cons_of_mem _ hy), tallyAt_apply, List.map_cons,
      List.sum_cons, Nat.add_comm]
    refine congrArg (· + _) ?_
    by_cases e : x.2 = k ∧ d = p x.1 c
    · rw [if_pos e, if_pos ⟨cell_eq_iff.mpr ⟨by rw [e.2, p_p x.1 hx], e.1.symm⟩, rfl⟩, e.1]
    · rw [if_neg e, if_neg fun h' => e ⟨(cell_eq_iff.mp h'.1).2.symm, by rw [(cell_eq_iff.mp h'.1).1, p_p x.1 hx]⟩]

theorem owed_sum (c : Dev nD) (k : CK) : ∀ t : List (ℕ × CK), (∀ x ∈ t, x.1 < 5) →
    ∑ d : Dev nD, owed d t (cell c k) () = (t.map fun x => if x.2 = k then amt k else 0).sum
  | [], _ => Finset.sum_const_zero
  | x :: xs, h => by
    rw [List.map_cons, List.sum_cons, ← owed_sum c k xs fun y hy => h y (List.mem_cons_of_mem _ hy), Finset.sum_congr rfl fun d _ => owed_at d c k (x :: xs) h]
    simp only [List.map_cons, List.sum_cons, Finset.sum_add_distrib]
    refine congr (congrArg _ ?_) (Finset.sum_congr rfl fun d _ => (owed_at d c k xs fun y hy => h y (List.mem_cons_of_mem _ hy)).symm)
    by_cases e : x.2 = k
    · rw [if_pos e, Finset.sum_congr rfl fun d _ => (if_congr (and_iff_right e) rfl rfl), Finset.sum_ite_eq' Finset.univ (p x.1 c) fun _ => amt k,
        if_pos (Finset.mem_univ _)]
    · rw [if_neg e]; exact Finset.sum_eq_zero fun d _ => if_neg fun h' => e h'.1

/-- The credit device `c` waits with on its cell `k`; none for the cells it pays itself. -/
theorem launch_cell (c : Dev nD) (k : CK) (n : ℕ) (hn : (payT.map fun x => if x.2 = k then amt k else 0).sum = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, ← hn, ← owed_sum c k payT (by decide)]
  rfl

end Cert.KernelIdeal.AllReduce

end
-- ==== Proof.KernelIdeal.Contents.lean ====
/-
# What the buffers hold

Device `c` first fills its buffers of numerators and denominators block by block from its own keys and values; then,
stage after stage, it adds what its partner held. This module states those contents, as functions of the blocks the
device is given, and collapses the thirty-two stores of the first phase to them.
-/
module

public import proofs.«01_k».proof.Proof.KernelIdeal.Sched
public import Idealize.ShloMosaic.Lib.Writes
public import Idealize.ShloMosaic.Lib.Pipeline.Value

@[expose] public section

noncomputable section

namespace Cert.KernelIdeal.AllReduce

open Cert.KernelIdeal Cert.KernelIdeal.Gen
open Idealize.ShloMosaic
open Idealize.ShloMosaic.TcCoe

variable {F : FTy → Type} [FloatOps F]

/-! ## The blocks of the first phase: batch `b`, head `h`, query block `q` -/

theorem inb_x (b : Fin 2) : ∀ a, (![b.1, 0, 0] : Fin 3 → Nat) a + S1x256x512.size a ≤ S2x256x512.size a := by
  revert b; decide +kernel
theorem inb_kv (b : Fin 2) (h q : Fin 4) :
    ∀ a, (![b.1, 64 * q.1, h.1, 0] : Fin 4 → Nat) a + S1x64x1x64.size a ≤ S2x256x4x64.size a := by
  revert b h q; decide +kernel
theorem inb_num (b : Fin 2) (h q : Fin 4) :
    ∀ a, (![b.1, h.1, 0, 64 * q.1] : Fin 4 → Nat) a + S1x1x64x64.size a ≤ S2x4x64x256.size a := by
  revert b h q; decide +kernel
theorem inb_den (b : Fin 2) (h q : Fin 4) :
    ∀ a, (![b.1 * 4 + h.1, 64 * q.1] : Fin 2 → Nat) a + S1x64.size a ≤ S8x256.size a := by
  revert b h q; decide +kernel
theorem slices_q (h q : Fin 4) : S256x256.Slices ![64 * q.1, 64 * h.1] S64x64 := by revert h q; decide +kernel

section Blocks
variable (x : Vec F S2x256x512 .f32) (wq : Vec F S512x256 .f32) (k v : Vec F S2x256x4x64 .f32)

/-- The projected queries of batch `b`. -/
def qOf (b : Fin 2) : FVec F S256x256 .f32 :=
  k0_pay1 (View.readAt (Elt F) (Memref.whole cc0_stg0_0).view (Rect.unit (s := S2x256x512) ![b.1, 0, 0] S1x256x512.size (inb_x b)).toLoadRect x)
    (View.readAt (Elt F) (Memref.whole cc0_stg1_0).view (Rect.unit (s := S512x256) ![0, 0] S512x256.size inb_S512x256_S512x256_0_0).toLoadRect wq)

def kBlk (b : Fin 2) (h q : Fin 4) : Vec F S1x64x1x64 .f32 :=
  View.readAt (Elt F) (Memref.whole cc0_stg2_0).view (Rect.unit (s := S2x256x4x64) ![b.1, 64 * q.1, h.1, 0] S1x64x1x64.size (inb_kv b h q)).toLoadRect k
def vBlk (b : Fin 2) (h q : Fin 4) : Vec F S1x64x1x64 .f32 :=
  View.readAt (Elt F) (Memref.whole cc0_stg3_0).view (Rect.unit (s := S2x256x4x64) ![b.1, 64 * q.1, h.1, 0] S1x64x1x64.size (inb_kv b h q)).toLoadRect v

/-- The exponentials of the scaled scores, keys down and queries across. -/
def eBlk (b : Fin 2) (h q : Fin 4) : FVec F S64x64 .f32 :=
  exp (mulf (matmul dot_S64x64_S64x64_S64x64_1_1_0_0_n_n none (shapeCast S64x64 (kBlk k b h q) shapeCasts_S1x64x1x64_S64x64)
      (extractStridedSlice S64x64 ![64 * q.1, 64 * h.1] (qOf x wq b) (slices_q h q)) (constant S64x64 .f32 0x00000000#32))
    (broadcast S64x64 (Scalar.ofBits .f32 0x3E000000#32 : F .f32)))

/-- The block's numerators: value components down, queries across. -/
def nBlk (b : Fin 2) (h q : Fin 4) : FVec F S64x64 .f32 :=
  matmul dot_S64x64_S64x64_S64x64_0_0_1_1_n_n none (shapeCast S64x64 (vBlk v b h q) shapeCasts_S1x64x1x64_S64x64) (eBlk x wq k b h q)
    (constant S64x64 .f32 0x00000000#32)

/-- The block's denominators. -/
def dBlk (b : Fin 2) (h q : Fin 4) : FVec F S64 .f32 :=
  multiReduction .add [0] S64 (eBlk x wq k b h q) 0x00000000#32 reduces_S64x64_S64 (.inl rfl) rfl

/-- The blocks in the order of the stores, the last first. -/
abbrev blks : List (Fin 2 × Fin 4 × Fin 4) :=
  [(1, 3, 3), (1, 3, 2), (1, 3, 1), (1, 3, 0), (1, 2, 3), (1, 2, 2), (1, 2, 1), (1, 2, 0), (1, 1, 3), (1, 1, 2), (1, 1, 1), (1, 1, 0),
    (1, 0, 3), (1, 0, 2), (1, 0, 1), (1, 0, 0), (0, 3, 3), (0, 3, 2), (0, 3, 1), (0, 3, 0), (0, 2, 3), (0, 2, 2), (0, 2, 1), (0, 2, 0),
    (0, 1, 3), (0, 1, 2), (0, 1, 1), (0, 1, 0), (0, 0, 3), (0, 0, 2), (0, 0, 1), (0, 0, 0)]

theorem mem_blks (i : Fin 2 × Fin 4 × Fin 4) : i ∈ blks := by revert i; decide +kernel

def numPiece (i : Fin 2 × Fin 4 × Fin 4) : View.Piece (Elt F) S2x4x64x256 .f32 :=
  ⟨Rect.unit (s := S2x4x64x256) ![i.1.1, i.2.1.1, 0, 64 * i.2.2.1] S1x1x64x64.size (inb_num i.1 i.2.1 i.2.2),
    shapeCast S1x1x64x64 (nBlk x wq k v i.1 i.2.1 i.2.2) shapeCasts_S64x64_S1x1x64x64⟩
def denPiece (i : Fin 2 × Fin 4 × Fin 4) : View.Piece (Elt F) S8x256 .f32 :=
  ⟨Rect.unit (s := S8x256) ![i.1.1 * 4 + i.2.1.1, 64 * i.2.2.1] S1x64.size (inb_den i.1 i.2.1 i.2.2),
    shapeCast S1x64 (shapeCast S1x64 (dBlk x wq k i.1 i.2.1 i.2.2) shapeCasts_S64_S1x64) shapeCasts_S1x64_S1x64⟩

def at2 (a b : Fin 64) : S64x64.Idx := fun i => match i with
  | 0 => a
  | 1 => b
def at1 (a : Fin 64) : S64.Idx := fun i => match i with
  | 0 => a

/-- The numerators of one device's own keys: (batch, head, component, query). -/
def NUM0 : Vec F S2x4x64x256 .f32 := fun y =>
  nBlk x wq k v (y 0) (y 1) ⟨(y 3).val / 64, by have : (y 3).val < 256 := (y 3).2; omega⟩
    (at2 (y 2) ⟨(y 3).val % 64, Nat.mod_lt _ (by decide)⟩)

/-- The denominators of one device's own keys: (four times the batch plus the head, query). -/
def DEN0 : Vec F S8x256 .f32 := fun y =>
  dBlk x wq k ⟨(y 0).val / 4, by have : (y 0).val < 8 := (y 0).2; omega⟩ ⟨(y 0).val % 4, Nat.mod_lt _ (by decide)⟩
    ⟨(y 1).val / 64, by have : (y 1).val < 256 := (y 1).2; omega⟩ (at1 ⟨(y 1).val % 64, Nat.mod_lt _ (by decide)⟩)

theorem NUM0_at (b : Fin 2) (h q : Fin 4) (d r : Fin 64) (y : S2x4x64x256.Idx) (h0 : (y 0).val = b.1) (h1 : (y 1).val = h.1)
    (h2 : (y 2).val = d.1) (h3 : (y 3).val = 64 * q.1 + r.1) : NUM0 x wq k v y = nBlk x wq k v b h q (at2 d r) := by
  have key : ∀ (b' : Fin 2) (h' q' : Fin 4) (d' r' : Fin 64), b' = b → h' = h → q' = q → d' = d → r' = r →
      nBlk x wq k v b' h' q' (at2 d' r') = nBlk x wq k v b h q (at2 d r) := by
    rintro _ _ _ _ _ rfl rfl rfl rfl rfl; rfl
  have hr := r.2
  exact key _ _ _ _ _ (Fin.ext h0) (Fin.ext h1) (Fin.ext (by show (y 3).val / 64 = q.1; omega)) (Fin.ext h2)
    (Fin.ext (by show (y 3).val % 64 = r.1; omega))

theorem DEN0_at (b : Fin 2) (h q : Fin 4) (r : Fin 64) (y : S8x256.Idx) (h0 : (y 0).val = b.1 * 4 + h.1)
    (h1 : (y 1).val = 64 * q.1 + r.1) : DEN0 x wq k y = dBlk x wq k b h q (at1 r) := by
  have key : ∀ (b' : Fin 2) (h' q' : Fin 4) (r' : Fin 64), b' = b → h' = h → q' = q → r' = r →
      dBlk x wq k b' h' q' (at1 r') = dBlk x wq k b h q (at1 r) := by
    rintro _ _ _ _ rfl rfl rfl rfl; rfl
  have hr := r.2
  have hh := h.2
  exact key _ _ _ _ (Fin.ext (by show (y 0).val / 4 = b.1; omega)) (Fin.ext (by show (y 0).val % 4 = h.1; omega))
    (Fin.ext (by show (y 1).val / 64 = q.1; omega)) (Fin.ext (by show (y 1).val % 64 = r.1; omega))

theorem numPiece_eq (b : Fin 2) (h q : Fin 4) (j : S1x1x64x64.Idx) :
    shapeCast S1x1x64x64 (nBlk x wq k v b h q) shapeCasts_S64x64_S1x1x64x64 j
      = NUM0 x wq k v ((Rect.unit (s := S2x4x64x256) ![b.1, h.1, 0, 64 * q.1] S1x1x64x64.size (inb_num b h q)).emb j) := by
  have j0 : (j 0).val < 1 := (j 0).2
  have j1 : (j 1).val < 1 := (j 1).2
  refine Eq.trans (shapeCast_apply _ _ j (at2 (j 2) (j 3)) ?_) (NUM0_at x wq k v b h q (j 2) (j 3) _ ?_ ?_ ?_ ?_).symm
  · rw [Shape.rowMajor_val_four, Shape.rowMajor_val_two]
    show (j 2).val * 64 + (j 3).val = (((j 0).val * 1 + (j 1).val) * 64 + (j 2).val) * 64 + (j 3).val
    omega
  · show b.1 + 1 * (j 0).val = b.1; omega
  · show h.1 + 1 * (j 1).val = h.1; omega
  · show 0 + 1 * (j 2).val = (j 2).val; omega
  · show 64 * q.1 + 1 * (j 3).val = 64 * q.1 + (j 3).val; omega

theorem denPiece_eq (b : Fin 2) (h q : Fin 4) (j : S1x64.Idx) :
    shapeCast S1x64 (shapeCast S1x64 (dBlk x wq k b h q) shapeCasts_S64_S1x64) shapeCasts_S1x64_S1x64 j
      = DEN0 x wq k ((Rect.unit (s := S8x256) ![b.1 * 4 + h.1, 64 * q.1] S1x64.size (inb_den b h q)).emb j) := by
  have j0 : (j 0).val < 1 := (j 0).2
  refine Eq.trans (shapeCast_apply _ _ j j rfl) (Eq.trans (shapeCast_apply _ _ j (at1 (j 1)) ?_)
    (DEN0_at x wq k b h q (j 1) _ ?_ ?_).symm)
  · rw [Shape.rowMajor_val_one, Shape.rowMajor_val_two]
    show (j 1).val = (j 0).val * 64 + (j 1).val
    omega
  · show b.1 * 4 + h.1 + 1 * (j 0).val = b.1 * 4 + h.1; omega
  · show 64 * q.1 + 1 * (j 1).val = 64 * q.1 + (j 1).val; omega

theorem num_cover (y : S2x4x64x256.Idx) : ∃ p ∈ blks.map (numPiece x wq k v), y ∈ p.1.set := by
  have y3 : (y 3).val < 256 := (y 3).2
  refine ⟨_, List.mem_map_of_mem (mem_blks (y 0, y 1, ⟨(y 3).val / 64, by omega⟩)), ?_⟩
  unfold numPiece
  rw [Rect.mem_set_unit]
  intro a
  have h2 : (y 2).val < 64 := (y 2).2
  match a with
  | 0 => exact ⟨Nat.le_refl _, Nat.lt_succ_self _⟩
  | 1 => exact ⟨Nat.le_refl _, Nat.lt_succ_self _⟩
  | 2 => exact ⟨Nat.zero_le _, by show (y 2).val < 0 + 64; omega⟩
  | 3 => exact ⟨by show 64 * ((y 3).val / 64) ≤ (y 3).val; omega, by show (y 3).val < 64 * ((y 3).val / 64) + 64; omega⟩

theorem den_cover (y : S8x256.Idx) : ∃ p ∈ blks.map (denPiece x wq k), y ∈ p.1.set := by
  have y0 : (y 0).val < 8 := (y 0).2
  have y1 : (y 1).val < 256 := (y 1).2
  refine ⟨_, List.mem_map_of_mem (mem_blks (⟨(y 0).val / 4, by omega⟩, ⟨(y 0).val % 4, by omega⟩, ⟨(y 1).val / 64, by omega⟩)), ?_⟩
  unfold denPiece
  rw [Rect.mem_set_unit]
  intro a
  match a with
  | 0 => exact ⟨by show (y 0).val / 4 * 4 + (y 0).val % 4 ≤ (y 0).val; omega, by show (y 0).val < (y 0).val / 4 * 4 + (y 0).val % 4 + 1; omega⟩
  | 1 => exact ⟨by show 64 * ((y 1).val / 64) ≤ (y 1).val; omega, by show (y 1).val < 64 * ((y 1).val / 64) + 64; omega⟩

theorem num_read (f : (Memref.whole cc0_scratch0 : Memref sig .tc .vmem S2x4x64x256 .f32).view.ty.Contents (Elt F)) (y : S2x4x64x256.Idx) :
    numM.view.read (Elt F) f y = f y := rfl
theorem den_read (f : (Memref.whole cc0_scratch1 : Memref sig .tc .vmem S8x256 .f32).view.ty.Contents (Elt F)) (y : S8x256.Idx) :
    denM.view.read (Elt F) f y = f y := rfl

/-- The thirty-two stores into the numerators leave `NUM0`, whatever was there. -/
theorem num_writes (f : (Memref.whole cc0_scratch0 : Memref sig .tc .vmem S2x4x64x256 .f32).view.ty.Contents (Elt F)) :
    numM.view.writes (Elt F) f (blks.map (numPiece x wq k v)) = NUM0 x wq k v := by
  funext y
  refine (num_read _ y).symm.trans ?_
  refine View.read_writes_apply_of_pieces numM.view f (NUM0 x wq k v) (blks.map (numPiece x wq k v)) (fun p hp j => ?_) y (num_cover x wq k v y)
  obtain ⟨i, -, rfl⟩ := List.mem_map.mp hp
  exact numPiece_eq x wq k v i.1 i.2.1 i.2.2 j

theorem den_writes (f : (Memref.whole cc0_scratch1 : Memref sig .tc .vmem S8x256 .f32).view.ty.Contents (Elt F)) :
    denM.view.writes (Elt F) f (blks.map (denPiece x wq k)) = DEN0 x wq k := by
  funext y
  refine (den_read _ y).symm.trans ?_
  refine View.read_writes_apply_of_pieces denM.view f (DEN0 x wq k) (blks.map (denPiece x wq k)) (fun p hp j => ?_) y (den_cover x wq k y)
  obtain ⟨i, -, rfl⟩ := List.mem_map.mp hp
  exact denPiece_eq x wq k i.1 i.2.1 i.2.2 j

end Blocks

/-! ## The stages -/

/-- The numerators as they are sent. -/
def rnd (n : Vec F S2x4x64x256 .f32) : Vec F S2x4x64x256 .bf16 := truncf .bf16 n bitsLt_bf16_f32

/-- What device `c` holds after `s` stages: what it held and what its partner sent. -/
def NUM (n0 : Dev nD → Vec F S2x4x64x256 .f32) : ℕ → Dev nD → Vec F S2x4x64x256 .f32
  | 0, c => n0 c
  | s + 1, c => addf (NUM n0 s c) (extf .f32 (rnd (NUM n0 s (p s c))) bitsLt_bf16_f32)

def DEN (d0 : Dev nD → Vec F S8x256 .f32) : ℕ → Dev nD → Vec F S8x256 .f32
  | 0, c => d0 c
  | s + 1, c => addf (DEN d0 s c) (DEN d0 s (p s c))

end Cert.KernelIdeal.AllReduce

end
-- ==== Proof.KernelIdeal.Stage.lean ====
/-
# The steps of a device after its own blocks are computed

The program from the first handshake on, in the pieces it repeats: the handshake, a stage of the exchange, the
division and projection, the handshake at the end. Each piece is run once here, for any stage, batch or device.
-/
module

public import proofs.«01_k».proof.Proof.KernelIdeal.Contents

@[expose] public section

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## The program in pieces -/

theorem nslot_exact (s : ℕ) (h : s < 5) : (nslot s h).view.WordExact := by
  have e : ∀ s : Fin 5, (nrR s.1 s.2).WholeWords (EltTy.packing .bf16) := by decide
  exact ((Memref.isWhole_whole cc0_scratch3).wordExact_slice rfl _ (e ⟨s, h⟩)).reshape _ _
theorem dslot_exact (s : ℕ) (h : s < 5) : (dslot s h).view.WordExact := (View.wordExact_bits rfl).reshape _ _
theorem nsM_exact : nsM.view.WordExact := (Memref.isWhole_whole cc0_scratch2).wordExact
theorem denM_exact : denM.view.WordExact := (Memref.isWhole_whole cc0_scratch1).wordExact

abbrev rN : Rect S2x4x64x256 := Rect.unit (s := S2x4x64x256) ![0, 0, 0, 0] S2x4x64x256.size inb_S2x4x64x256_S2x4x64x256_0_0_0_0
abbrev rD : Rect S8x256 := Rect.unit (s := S8x256) ![0, 0] S8x256.size inb_S8x256_S8x256_0_0

/-- One stage: round and send the numerators, send the denominators, wait for both of each, add what came. -/
def stageProg (s : ℕ) (h : s < 5) (n1 n2 : Dev nD) : Prog (TpuEff nD τ sig (Elt F) Λ₀ .tc) PUnit := do
  let a ← Prog.lift (.load numM rN.toLoadRect (View.loadsAt_vmem h_S2x4x64x256))
  let _ ← Prog.lift (.load nsM rN.toLoadRect (View.loadsAt_vmem h_S2x4x64x256))
  Prog.lift (.store nsM rN (k0_pay127 a) Finset.univ
    (View.stores_vmem h_S2x4x64x256 ((Memref.isWhole_whole cc0_scratch2).storeExact_slice rfl _ packedbf16_S2x4x64x256_S2x4x64x256_0_0_0_0) (fun _ => rfl)) (.inl rfl))
  Prog.lift (.enqueueDma nsM (.remote (Dev.tc n1) (nslot s h) (.dma (nsS s h))) (.dma (nrS s h)) nsM_exact (nslot_exact s h) ⟨⟨rfl, Or.inl rfl⟩, trivial⟩)
  Prog.lift (.enqueueDma denM (.remote (Dev.tc n2) (dslot s h) (.dma (dsS s h))) (.dma (drS s h)) denM_exact (dslot_exact s h) ⟨⟨rfl, Or.inl rfl⟩, trivial⟩)
  Prog.lift (.waitDma2 (nsS s h) (nslot s h) nsM (nslot_exact s h) nsM_exact)
  Prog.lift (.waitDma2 (nrS s h) nsM (nslot s h) nsM_exact (nslot_exact s h))
  Prog.lift (.waitDma2 (dsS s h) (dslot s h) denM (dslot_exact s h) denM_exact)
  Prog.lift (.waitDma2 (drS s h) denM (dslot s h) denM_exact (dslot_exact s h))
  let b ← Prog.lift (.load numM rN.toLoadRect (View.loadsAt_vmem h_S2x4x64x256))
  let r ← Prog.lift (.load nrM (nrR s h).toLoadRect (View.loadsAt_vmem h_S1x2x4x64x256))
  let _ ← Prog.lift (.load numM rN.toLoadRect (View.loadsAt_vmem h_S2x4x64x256))
  Prog.lift (.store numM rN (k0_pay128 b r) Finset.univ (View.stores_vmem_bits_univ h_S2x4x64x256 rfl) (.inl rfl))
  let d ← Prog.lift (.load denM rD.toLoadRect (View.loadsAt_vmem h_S8x256))
  let e ← Prog.lift (.load drM (drR s h).toLoadRect (View.loadsAt_vmem h_S1x8x256))
  let _ ← Prog.lift (.load denM rD.toLoadRect (View.loadsAt_vmem h_S8x256))
  Prog.lift (.store denM rD (k0_pay129 d e) Finset.univ (View.stores_vmem_bits_univ h_S8x256 rfl) (.inl rfl))

/-- A handshake with all five partners. -/
def shakeProg (sem : Sem sig) (d : Fin 5 → Dev nD) : Prog (TpuEff nD τ sig (Elt F) Λ₀ .tc) PUnit := do
  semSignalWord (d 0) sem 1#32
  semSignalWord (d 1) sem 1#32
  semSignalWord (d 2) sem 1#32
  semSignalWord (d 3) sem 1#32
  semSignalWord (d 4) sem 1#32
  semWaitWord sem 5#32

abbrev woM : Memref sig .tc .vmem S256x512 .f32 := Memref.whole cc0_stg4_0
abbrev outM : Memref sig .tc .vmem S2x256x512 .f32 := Memref.whole cc0_stg5_0

theorem inb_hn (b : Fin 2) (h : Fin 4) : ∀ a, (![b.1, h.1, 0, 0] : Fin 4 → Nat) a + S1x1x64x256.size a ≤ S2x4x64x256.size a := by
  revert b h; decide +kernel
theorem inb_hd (b : Fin 2) (h : Fin 4) : ∀ a, (![b.1 * 4 + h.1, 0] : Fin 2 → Nat) a + S1x256.size a ≤ S8x256.size a := by
  revert b h; decide +kernel
theorem inb_hw (h : Fin 4) : ∀ a, (![64 * h.1, 0] : Fin 2 → Nat) a + S64x512.size a ≤ S256x512.size a := by
  revert h; decide +kernel

abbrev rHN (b : Fin 2) (h : Fin 4) : Rect S2x4x64x256 := Rect.unit (s := S2x4x64x256) ![b.1, h.1, 0, 0] S1x1x64x256.size (inb_hn b h)
abbrev rHD (b : Fin 2) (h : Fin 4) : Rect S8x256 := Rect.unit (s := S8x256) ![b.1 * 4 + h.1, 0] S1x256.size (inb_hd b h)
abbrev rHW (h : Fin 4) : Rect S256x512 := Rect.unit (s := S256x512) ![64 * h.1, 0] S64x512.size (inb_hw h)
abbrev rX (b : Fin 2) : Rect S2x256x512 := Rect.unit (s := S2x256x512) ![b.1, 0, 0] S1x256x512.size (inb_x b)

/-- One head's share of the output, from its numerators, its denominators and its rows of the projection. -/
def headOut (n : Vec F S1x1x64x256 .f32) (d : Vec F S1x256 .f32) (w : Vec F S64x512 .f32) : FVec F S256x512 .f32 :=
  matmul dot_S64x256_S64x512_S256x512_0_0_1_1_n_n none
    (divf (shapeCast S64x256 n shapeCasts_S1x1x64x256_S64x256) (broadcastTo S64x256 d broadcasts_S1x256_S64x256))
    (shapeCast S64x512 w shapeCasts_S64x512_S64x512) (constant S256x512 .f32 0x00000000#32)

def headProg (b : Fin 2) (h : Fin 4) (acc : FVec F S256x512 .f32) : Prog (TpuEff nD τ sig (Elt F) Λ₀ .tc) (FVec F S256x512 .f32) := do
  let n ← Prog.lift (.load numM (rHN b h).toLoadRect (View.loadsAt_vmem h_S1x1x64x256))
  let d ← Prog.lift (.load denM (rHD b h).toLoadRect (View.loadsAt_vmem h_S1x256))
  let w ← Prog.lift (.load woM (rHW h).toLoadRect (View.loadsAt_vmem h_S64x512))
  pure (addf acc (headOut n d w))

/-- One batch of the output. -/
def batchProg (b : Fin 2) : Prog (TpuEff nD τ sig (Elt F) Λ₀ .tc) PUnit := do
  let a0 ← headProg b 0 (broadcast S256x512 (Scalar.ofBits .f32 0x00000000#32 : F .f32))
  let a1 ← headProg b 1 a0
  let a2 ← headProg b 2 a1
  let a3 ← headProg b 3 a2
  let _ ← Prog.lift (.load outM (rX b).toLoadRect (View.loadsAt_vmem h_S1x256x512))
  Prog.lift (.store outM (rX b) (shapeCast S1x256x512 a3 shapeCasts_S256x512_S1x256x512) Finset.univ (View.stores_vmem_bits_univ h_S1x256x512 rfl) (.inl rfl))

def barDev (c : Dev nD) : Fin 5 → Dev nD
  | 0 => ⟨k0_dev1 c, k0_dev1_lt c⟩
  | 1 => ⟨k0_dev2 c, k0_dev2_lt c⟩
  | 2 => ⟨k0_dev3 c, k0_dev3_lt c⟩
  | 3 => ⟨k0_dev4 c, k0_dev4_lt c⟩
  | 4 => ⟨k0_dev5 c, k0_dev5_lt c⟩
def exitDev (c : Dev nD) : Fin 5 → Dev nD
  | 0 => ⟨k0_dev16 c, k0_dev16_lt c⟩
  | 1 => ⟨k0_dev17 c, k0_dev17_lt c⟩
  | 2 => ⟨k0_dev18 c, k0_dev18_lt c⟩
  | 3 => ⟨k0_dev19 c, k0_dev19_lt c⟩
  | 4 => ⟨k0_dev20 c, k0_dev20_lt c⟩

/-- Everything after the blocks. -/
def tailProg (c : Dev nD) : Prog (TpuEff nD τ sig (Elt F) Λ₀ .tc) PUnit := do
  shakeProg barS (barDev c)
  stageProg 0 (by decide) ⟨k0_dev6 c, k0_dev6_lt c⟩ ⟨k0_dev7 c, k0_dev7_lt c⟩
  stageProg 1 (by decide) ⟨k0_dev8 c, k0_dev8_lt c⟩ ⟨k0_dev9 c, k0_dev9_lt c⟩
  stageProg 2 (by decide) ⟨k0_dev10 c, k0_dev10_lt c⟩ ⟨k0_dev11 c, k0_dev11_lt c⟩
  stageProg 3 (by decide) ⟨k0_dev12 c, k0_dev12_lt c⟩ ⟨k0_dev13 c, k0_dev13_lt c⟩
  stageProg 4 (by decide) ⟨k0_dev14 c, k0_dev14_lt c⟩ ⟨k0_dev15 c, k0_dev15_lt c⟩
  batchProg 0
  batchProg 1
  shakeProg exitS (exitDev c)

theorem dev_eq (c : Dev nD) :
    barDev c = (fun s => p s.1 c) ∧ exitDev c = (fun s => p s.1 c)
      ∧ (⟨k0_dev6 c, k0_dev6_lt c⟩ : Dev nD) = p 0 c ∧ (⟨k0_dev7 c, k0_dev7_lt c⟩ : Dev nD) = p 0 c
      ∧ (⟨k0_dev8 c, k0_dev8_lt c⟩ : Dev nD) = p 1 c ∧ (⟨k0_dev9 c, k0_dev9_lt c⟩ : Dev nD) = p 1 c
      ∧ (⟨k0_dev10 c, k0_dev10_lt c⟩ : Dev nD) = p 2 c ∧ (⟨k0_dev11 c, k0_dev11_lt c⟩ : Dev nD) = p 2 c
      ∧ (⟨k0_dev12 c, k0_dev12_lt c⟩ : Dev nD) = p 3 c ∧ (⟨k0_dev13 c, k0_dev13_lt c⟩ : Dev nD) = p 3 c
      ∧ (⟨k0_dev14 c, k0_dev14_lt c⟩ : Dev nD) = p 4 c ∧ (⟨k0_dev15 c, k0_dev15_lt c⟩ : Dev nD) = p 4 c := by
  revert c; decide +kernel

/-! ## The records of the cells -/

variable (n0 : Dev nD → Vec F S2x4x64x256 .f32) (d0 : Dev nD → Vec F S8x256 .f32)

/-- What is sent: numerators rounded, denominators as they are. -/
abbrev sentN : ℕ → Dev nD → Vec F S2x4x64x256 .bf16 := fun s c => rnd (NUM n0 s c)
abbrev RdA : Rounds.Schedule (GSem nD τ sig) (Fin 5) 𝕄 := Rd (sentN n0) (DEN d0)

def records (κ : Dev nD × CK → ℕ) : sProp 𝕄 :=
  iprop((bigSep Finset.univ fun x : Dev nD × CK => cellInv ER (RdA n0 d0) (κ x) (cell x.1 x.2))
    ∗ bigSep Finset.univ fun x : Dev nD × CK => reached ER (cell x.1 x.2) 0)

instance records_persistent (κ : Dev nD × CK → ℕ) : BI.Persistent (records n0 d0 κ) := by unfold records; infer_instance

variable (κ : Dev nD × CK → ℕ)

theorem inv_at (c : Dev nD) (k : CK) : records n0 d0 κ ⊢ cellInv ER (RdA n0 d0) (κ (c, k)) (cell c k) := by
  unfold records
  exact (BI.Entails.trans BI.sep_and BI.and_elimL).trans (bigSep_elim (Φ := fun x : Dev nD × CK => (cellInv ER (RdA n0 d0) (κ x) (cell x.1 x.2) : sProp 𝕄)) (Finset.mem_univ (c, k)))
theorem reached_at (c : Dev nD) (k : CK) : records n0 d0 κ ⊢ (reached ER (cell c k) 0 : sProp 𝕄) := by
  unfold records
  exact (BI.Entails.trans BI.sep_and BI.and_elimR).trans (bigSep_elim (Φ := fun x : Dev nD × CK => (reached ER (cell x.1 x.2) 0 : sProp 𝕄)) (Finset.mem_univ (c, k)))

/-! ## One effect at a time -/

section Steps

variable {α : Type} {k : PUnit → Prog (TpuEff nD τ sig (Elt F) Λ₀ .tc) α}

/-- A signal of a handshake: the payment owed next. -/
theorem wp_shake {Q : α → sProp 𝕄} (c : Dev nD) (s : Fin 5) (x : CK) (sem : Sem sig) (hx : csem x = .reg sem) (ha : amt x = 1) (hd : dutiesOf x = Finset.univ)
    (t : List (ℕ × CK)) (W : Waits sig Unit) :
    iprop(records n0 d0 κ ∗ owes (c : Thread nD τ) (owed c ((s.1, x) :: t)) W ∗ dutyTok ER (cell (p s.1 c) x) 0 s
        ∗ payOf (sentN n0) (DEN d0) (p s.1 c) s x)
      ⊢ iprop((owes (c : Thread nD τ) (owed c t) W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (p s.1 c, .tc) sem (1#32).toInt) k) Q) := by
  have hc : cell (p s.1 c) x = ((p s.1 c : Thread nD τ), .reg sem) := by rw [← hx]
  have e1 := duties_eq (F := F) (sentN n0) (DEN d0) (p s.1 c) x
  have e2 := amount_eq (F := F) (sentN n0) (DEN d0) (p s.1 c) x s
  have e3 := payload_eq (F := F) (sentN n0) (DEN d0) (p s.1 c) x s
  have hi := inv_at n0 d0 κ (p s.1 c) x
  have hr := reached_at n0 d0 κ (p s.1 c) x
  have ho : owed c ((s.1, x) :: t) = owed c t + tallyAt (cell (p s.1 c) x) () 1 := by rw [owed, ha]
  rw [ho]
  rw [hc] at *
  iintro ⟨#HR, HO, Ht, Hp⟩
  iapply (Rounds.wp_signal 𝒱₀ ER (RdA n0 d0) (c : Thread nD τ) none (dst := (p s.1 c : Thread nD τ)) (κ := κ (p s.1 c, x))
      (d := s) (by rw [e1, hd]; exact Finset.mem_univ _) ((e2.trans ha).trans (by decide)) () (owed c t) rfl) $$ [HO Ht Hp]
  isplitr; · iapply hi; iexact HR
  isplitl [HO]; · iexact HO
  isplitl [Ht]; · iexact Ht
  isplitl [Hp]; · rw [e3]; iexact Hp
  iapply hr; iexact HR

/-- The payments of a whole wait. -/
abbrev rest (c : Dev nD) (x : CK) : sProp 𝕄 := bigSep (dutiesOf x) fun d => payOf (sentN n0) (DEN d0) c d x

/-- A wait on one of the device's own cells; the cell is done with after it. -/
theorem wp_waits {Q : α → sProp 𝕄} (c : Dev nD) (x : CK) (t : List (ℕ × CK)) (ht : ∀ y ∈ t, lvK x < lvK y.2) (W : Waits sig Unit)
    {w : TpuEff nD τ sig (Elt F) Λ₀ .tc PUnit} {k' : ℕ}
    (hw : ∀ Kc : PUnit → sProp 𝕄, wpE (defs₀ (F := F)) 𝒱₀ (c : Thread nD τ) none Set.univ w Kc = waitSpec (c : Thread nD τ) Set.univ (csem x) k' Kc) (hk : k' = total x) :
    iprop(records n0 d0 κ ∗ levAts L lv ∗ cred (tallyAt (cell c x) () (total x)) ∗ owes (c : Thread nD τ) (owed c t) W ∗ atPos ER (cell c x) 0 ∅ 0)
      ⊢ iprop(((owes (c : Thread nD τ) (owed c t) (insert (csem x, ()) W) ∗ semVal (cell c x) 0 ∗ rest n0 d0 c x)
          -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  subst hk
  iintro ⟨#HR, #Hlev, Hc, HO, Ha⟩ Hk
  ihave #HI := (inv_at n0 d0 κ c x) $$ HR
  iapply (Rounds.wp_wait_rest_token 𝒱₀ ER (RdA n0 d0) (c : Thread nD τ) none (κ := κ (c, x))
      hw (Set.mem_univ _) () (O := owed c t) (W := W) (R := 0) (m := 0) (T := ∅)
      (by rw [Nat.zero_add, expect_eq])) $$ [Hc HO Ha]
  · isplitr; · iexact HI
    isplitl [Hc]; · iexact Hc
    isplitl [HO]; · iexact HO
    isplitr; · iapply (mayWait_cell c x t ht); iexact Hlev
    iexact Ha
  iintro ⟨HO, Ha, -, Hp⟩
  imod (Rounds.cell_close ER (RdA n0 d0) (Set.mem_univ (κ (c, x))) (fun h => h) (R := 0 + 1) (duties_later _ _ (cell c x))) $$ [Ha] with Hz
  · isplitr; · iexact HI
    iexact Ha
  iapply Hk
  isplitl [HO]; · iexact HO
  isplitl [Hz]; · iexact Hz
  ihave Hq := (Entails.of_eq (rest_eq (sentN n0) (DEN d0) c x)) $$ Hp
  iexact Hq

/-! The four waits of a stage. -/

theorem wp_wait_ns {Q : α → sProp 𝕄} (c : Dev nD) (s : Fin 5) (t : List (ℕ × CK)) (ht : ∀ y ∈ t, lvK (.ns s) < lvK y.2) (W : Waits sig Unit)
    {h1 : (nslot s.1 s.2).view.WordExact} {h2 : nsM.view.WordExact} :
    iprop(records n0 d0 κ ∗ levAts L lv ∗ cred (tallyAt (cell c (.ns s)) () NN) ∗ owes (c : Thread nD τ) (owed c t) W ∗ atPos ER (cell c (.ns s)) 0 ∅ 0)
      ⊢ iprop(((owes (c : Thread nD τ) (owed c t) (insert (csem (.ns s), ()) W) ∗ semVal (cell c (.ns s)) 0 ∗ rest n0 d0 c (.ns s))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (nsS s.1 s.2) (nslot s.1 s.2) nsM h1 h2) k) Q) :=
  wp_waits n0 d0 κ c (.ns s) t ht W (w := .waitDma2 (nsS s.1 s.2) (nslot s.1 s.2) nsM h1 h2) (k' := NN) (fun _ => rfl) rfl

theorem wp_wait_nr {Q : α → sProp 𝕄} (c : Dev nD) (s : Fin 5) (t : List (ℕ × CK)) (ht : ∀ y ∈ t, lvK (.nr s) < lvK y.2) (W : Waits sig Unit)
    {h1 : nsM.view.WordExact} {h2 : (nslot s.1 s.2).view.WordExact} :
    iprop(records n0 d0 κ ∗ levAts L lv ∗ cred (tallyAt (cell c (.nr s)) () NN) ∗ owes (c : Thread nD τ) (owed c t) W ∗ atPos ER (cell c (.nr s)) 0 ∅ 0)
      ⊢ iprop(((owes (c : Thread nD τ) (owed c t) (insert (csem (.nr s), ()) W) ∗ semVal (cell c (.nr s)) 0 ∗ rest n0 d0 c (.nr s))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (nrS s.1 s.2) nsM (nslot s.1 s.2) h1 h2) k) Q) :=
  wp_waits n0 d0 κ c (.nr s) t ht W (w := .waitDma2 (nrS s.1 s.2) nsM (nslot s.1 s.2) h1 h2) (k' := NN) (fun _ => rfl) rfl

theorem wp_wait_ds {Q : α → sProp 𝕄} (c : Dev nD) (s : Fin 5) (t : List (ℕ × CK)) (ht : ∀ y ∈ t, lvK (.ds s) < lvK y.2) (W : Waits sig Unit)
    {h1 : (dslot s.1 s.2).view.WordExact} {h2 : denM.view.WordExact} :
    iprop(records n0 d0 κ ∗ levAts L lv ∗ cred (tallyAt (cell c (.ds s)) () ND) ∗ owes (c : Thread nD τ) (owed c t) W ∗ atPos ER (cell c (.ds s)) 0 ∅ 0)
      ⊢ iprop(((owes (c : Thread nD τ) (owed c t) (insert (csem (.ds s), ()) W) ∗ semVal (cell c (.ds s)) 0 ∗ rest n0 d0 c (.ds s))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dsS s.1 s.2) (dslot s.1 s.2) denM h1 h2) k) Q) :=
  wp_waits n0 d0 κ c (.ds s) t ht W (w := .waitDma2 (dsS s.1 s.2) (dslot s.1 s.2) denM h1 h2) (k' := ND) (fun _ => rfl) rfl

theorem wp_wait_dr {Q : α → sProp 𝕄} (c : Dev nD) (s : Fin 5) (t : List (ℕ × CK)) (ht : ∀ y ∈ t, lvK (.dr s) < lvK y.2) (W : Waits sig Unit)
    {h1 : denM.view.WordExact} {h2 : (dslot s.1 s.2).view.WordExact} :
    iprop(records n0 d0 κ ∗ levAts L lv ∗ cred (tallyAt (cell c (.dr s)) () ND) ∗ owes (c : Thread nD τ) (owed c t) W ∗ atPos ER (cell c (.dr s)) 0 ∅ 0)
      ⊢ iprop(((owes (c : Thread nD τ) (owed c t) (insert (csem (.dr s), ()) W) ∗ semVal (cell c (.dr s)) 0 ∗ rest n0 d0 c (.dr s))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (drS s.1 s.2) denM (dslot s.1 s.2) h1 h2) k) Q) :=
  wp_waits n0 d0 κ c (.dr s) t ht W (w := .waitDma2 (drS s.1 s.2) denM (dslot s.1 s.2) h1 h2) (k' := ND) (fun _ => rfl) rfl

theorem nslot_amount (s : Fin 5) : (nslot s.1 s.2).view.amount (.dma (nrS s.1 s.2)) = NN := rfl
theorem dslot_amount (s : Fin 5) : (dslot s.1 s.2).view.amount (.dma (drS s.1 s.2)) = ND := rfl
theorem nslot_land (s : Fin 5) (c : Dev nD) (X : Vec F S2x4x64x256 .bf16) (f : Buf (Elt F) ((nslot s.1 s.2).view.loc (c : Thread nD τ))) :
    ((nslot s.1 s.2).view.loc (c : Thread nD τ) ↦[(nslot s.1 s.2).view.set]{fullShare} ((nslot s.1 s.2).view.write (Elt F) f X Finset.univ) : sProp 𝕄) ⊢ nOwn s.1 s.2 c X := by
  unfold nOwn owns
  iintro H
  iexists _
  isplitr
  · ipureintro; exact View.read_write_univ f X
  iexact H
theorem dslot_land (s : Fin 5) (c : Dev nD) (X : Vec F S8x256 .f32) (f : Buf (Elt F) ((dslot s.1 s.2).view.loc (c : Thread nD τ))) :
    ((dslot s.1 s.2).view.loc (c : Thread nD τ) ↦[(dslot s.1 s.2).view.set]{fullShare} ((dslot s.1 s.2).view.write (Elt F) f X Finset.univ) : sProp 𝕄) ⊢ dOwn s.1 s.2 c X := by
  unfold dOwn owns
  iintro H
  iexists _
  isplitr
  · ipureintro; exact View.read_write_univ f X
  iexact H

/-- Sending the numerators of stage `s` to the partner. -/
theorem wp_send_num {Q : α → sProp 𝕄} (c : Dev nD) (s : Fin 5) (n : Dev nD) (hn : n = p s.1 c) (t : List (ℕ × CK)) (W : Waits sig Unit)
    {h1 : nsM.view.WordExact} {h2 : (nslot s.1 s.2).view.WordExact}
    {h3 : DmaTarget.Typed _ (.dma (nrS s.1 s.2)) (.remote (p := (Proc.tc : Proc τ)) (Dev.tc n) (nslot s.1 s.2) (.dma (nsS s.1 s.2)) rfl)} :
    iprop(records n0 d0 κ ∗ nsPts c (sentN n0 s.1 c) ∗ (∃ X, nOwn s.1 s.2 (p s.1 c) X) ∗ owes (c : Thread nD τ) (owed c ((s.1, CK.nr s) :: t)) W
        ∗ dutyTok ER (cell c (.ns s)) 0 0 ∗ dutyTok ER (cell (p s.1 c) (.nr s)) 0 0)
      ⊢ iprop(((cred (tallyAt (cell c (.ns s)) () NN) ∗ owes (c : Thread nD τ) (owed c t) W)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma nsM (.remote (Dev.tc n) (nslot s.1 s.2) (.dma (nsS s.1 s.2)) rfl) (.dma (nrS s.1 s.2)) h1 h2 h3) k) Q) := by
  subst hn
  unfold nOwn owns
  iintro ⟨#HR, Hs, ⟨%X, Hd⟩, HO, Ht1, Ht2⟩
  icases Hd with ⟨%f, %hf, Hd⟩
  ihave #HI1 := (inv_at n0 d0 κ c (.ns s)) $$ HR
  ihave #HI2 := (inv_at n0 d0 κ (p s.1 c) (.nr s)) $$ HR
  ihave #Hr1 := (reached_at n0 d0 κ c (.ns s)) $$ HR
  ihave #Hr2 := (reached_at n0 d0 κ (p s.1 c) (.nr s)) $$ HR
  iapply (Rounds.wp_send_pointsTo 𝒱₀ ER (RdA n0 d0) (c : Thread nD τ) none (c' := (p s.1 c : Thread nD τ)) (κ₁ := κ (c, .ns s)) (κ₂ := κ (p s.1 c, .nr s))
      (r₁ := 0) (r₂ := 0) (d₁ := 0) (d₂ := 0) (fs := sentN n0 s.1 c) (fd := f)
      (by rw [duties_eq (sentN n0) (DEN d0) c (.ns s)]; exact Finset.mem_singleton_self _)
      (by rw [duties_eq (sentN n0) (DEN d0) (p s.1 c) (.nr s)]; exact Finset.mem_singleton_self _)
      () () NN (nslot_amount s) (amount_eq (sentN n0) (DEN d0) c (.ns s) 0) (amount_eq (sentN n0) (DEN d0) (p s.1 c) (.nr s) 0) (owed c t) rfl (W := W)
      (by rw [payload_eq (sentN n0) (DEN d0) c (.ns s)]; exact BIBase.Entails.refl)
      (by
        rw [payload_eq (sentN n0) (DEN d0) (p s.1 c) (.nr s)]
        show _ ⊢ nOwn s.1 s.2 (p s.1 c) (sentN n0 s.1 (p s.1 (p s.1 c)))
        rw [p_p s.1 s.2]
        exact nslot_land s (p s.1 c) (sentN n0 s.1 c) f)) $$ [Hs Hd HO Ht1 Ht2]
  isplitr; · iexact HI1
  isplitr; · iexact HI2
  isplitl [Hs]; · iexact Hs
  isplitl [Hd]; · iexact Hd
  isplitl [HO]; · iexact HO
  isplitl [Ht1]; · iexact Ht1
  isplitr; · iexact Hr1
  isplitl [Ht2]; · iexact Ht2
  iexact Hr2

/-- Sending the denominators of stage `s` to the partner. -/
theorem wp_send_den {Q : α → sProp 𝕄} (c : Dev nD) (s : Fin 5) (n : Dev nD) (hn : n = p s.1 c) (t : List (ℕ × CK)) (W : Waits sig Unit)
    {h1 : denM.view.WordExact} {h2 : (dslot s.1 s.2).view.WordExact}
    {h3 : DmaTarget.Typed _ (.dma (drS s.1 s.2)) (.remote (p := (Proc.tc : Proc τ)) (Dev.tc n) (dslot s.1 s.2) (.dma (dsS s.1 s.2)) rfl)} :
    iprop(records n0 d0 κ ∗ denPts c (DEN d0 s.1 c) ∗ (∃ X, dOwn s.1 s.2 (p s.1 c) X) ∗ owes (c : Thread nD τ) (owed c ((s.1, CK.dr s) :: t)) W
        ∗ dutyTok ER (cell c (.ds s)) 0 0 ∗ dutyTok ER (cell (p s.1 c) (.dr s)) 0 0)
      ⊢ iprop(((cred (tallyAt (cell c (.ds s)) () ND) ∗ owes (c : Thread nD τ) (owed c t) W)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma denM (.remote (Dev.tc n) (dslot s.1 s.2) (.dma (dsS s.1 s.2)) rfl) (.dma (drS s.1 s.2)) h1 h2 h3) k) Q) := by
  subst hn
  unfold dOwn owns
  iintro ⟨#HR, Hs, ⟨%X, Hd⟩, HO, Ht1, Ht2⟩
  icases Hd with ⟨%f, %hf, Hd⟩
  ihave #HI1 := (inv_at n0 d0 κ c (.ds s)) $$ HR
  ihave #HI2 := (inv_at n0 d0 κ (p s.1 c) (.dr s)) $$ HR
  ihave #Hr1 := (reached_at n0 d0 κ c (.ds s)) $$ HR
  ihave #Hr2 := (reached_at n0 d0 κ (p s.1 c) (.dr s)) $$ HR
  iapply (Rounds.wp_send_pointsTo 𝒱₀ ER (RdA n0 d0) (c : Thread nD τ) none (c' := (p s.1 c : Thread nD τ)) (κ₁ := κ (c, .ds s)) (κ₂ := κ (p s.1 c, .dr s))
      (r₁ := 0) (r₂ := 0) (d₁ := 0) (d₂ := 0) (fs := DEN d0 s.1 c) (fd := f)
      (by rw [duties_eq (sentN n0) (DEN d0) c (.ds s)]; exact Finset.mem_singleton_self _)
      (by rw [duties_eq (sentN n0) (DEN d0) (p s.1 c) (.dr s)]; exact Finset.mem_singleton_self _)
      () () ND (dslot_amount s) (amount_eq (sentN n0) (DEN d0) c (.ds s) 0) (amount_eq (sentN n0) (DEN d0) (p s.1 c) (.dr s) 0) (owed c t) rfl (W := W)
      (by rw [payload_eq (sentN n0) (DEN d0) c (.ds s)]; exact BIBase.Entails.refl)
      (by
        rw [payload_eq (sentN n0) (DEN d0) (p s.1 c) (.dr s)]
        show _ ⊢ dOwn s.1 s.2 (p s.1 c) (DEN d0 s.1 (p s.1 (p s.1 c)))
        rw [p_p s.1 s.2]
        exact dslot_land s (p s.1 c) (DEN d0 s.1 c) f)) $$ [Hs Hd HO Ht1 Ht2]
  isplitr; · iexact HI1
  isplitr; · iexact HI2
  isplitl [Hs]; · iexact Hs
  isplitl [Hd]; · iexact Hd
  isplitl [HO]; · iexact HO
  isplitl [Ht1]; · iexact Ht1
  isplitr; · iexact Hr1
  isplitl [Ht2]; · iexact Ht2
  iexact Hr2

end Steps

end Cert.KernelIdeal.AllReduce

end
-- ==== Proof.KernelIdeal.Steps.lean ====
/-
# The stages of the all-reduce, step by step

One stage of the exchange is run here, for any stage and any device: round the numerators, send them and the
denominators, wait for both, add what came.
-/
module

public import proofs.«01_k».proof.Proof.KernelIdeal.Stage

@[expose] public section

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (n0 : Dev nD → Vec F S2x4x64x256 .f32) (d0 : Dev nD → Vec F S8x256 .f32) (κ : Dev nD × CK → ℕ)

/-! ## Reading and writing whole buffers and landing slots -/

theorem z4 : (![0, 0, 0, 0] : Fin 4 → Nat) = fun _ => 0 := by funext a; fin_cases a <;> rfl
theorem z2 : (![0, 0] : Fin 2 → Nat) = fun _ => 0 := by funext a; fin_cases a <;> rfl

theorem num_load (f : Vec F S2x4x64x256 .f32) : numM.view.readAt (Elt F) rN.toLoadRect f = f :=
  Memref.readAt_unit_zero (Elt F) cc0_scratch0 z4 _ f
theorem den_load (f : Vec F S8x256 .f32) : denM.view.readAt (Elt F) rD.toLoadRect f = f :=
  Memref.readAt_unit_zero (Elt F) cc0_scratch1 z2 _ f
theorem num_store (f w : Vec F S2x4x64x256 .f32) : (numM.access rN).write (Elt F) f w Finset.univ = w :=
  Memref.write_access_unit_zero_univ (Elt F) cc0_scratch0 z4 _ f w
theorem ns_store (f w : Vec F S2x4x64x256 .bf16) : (nsM.access rN).write (Elt F) f w Finset.univ = w :=
  Memref.write_access_unit_zero_univ (Elt F) cc0_scratch2 z4 _ f w
theorem den_store (f w : Vec F S8x256 .f32) : (denM.access rD).write (Elt F) f w Finset.univ = w :=
  Memref.write_access_unit_zero_univ (Elt F) cc0_scratch1 z2 _ f w

theorem nslot_set (s : Fin 5) : (nslot s.1 s.2).view.set = nrM.view.setOn (nrR s.1 s.2).set := by
  rw [View.set_reshape]; exact View.set_slice _ _
theorem dslot_set (s : Fin 5) : (dslot s.1 s.2).view.set = drM.view.setOn (drR s.1 s.2).set := by
  rw [View.set_reshape]; exact View.set_slice _ _

theorem pay_send (n : Vec F S2x4x64x256 .f32) : k0_pay127 n = rnd n := by
  unfold k0_pay127 rnd; exact shapeCast_self _ _
theorem pay_num (b : Vec F S2x4x64x256 .f32) (s : Fin 5) (f : Vec F S5x2x4x64x256 .bf16) (X : Vec F S2x4x64x256 .bf16) (hf : (nslot s.1 s.2).view.read (Elt F) f = X) :
    k0_pay128 b (nrM.view.readAt (Elt F) (nrR s.1 s.2).toLoadRect f) = addf b (extf .f32 X bitsLt_bf16_f32) := by
  subst hf
  unfold k0_pay128; exact shapeCast_self _ _
theorem pay_den (d : Vec F S8x256 .f32) (s : Fin 5) (f : Vec F S5x8x256 .f32) (X : Vec F S8x256 .f32) (hf : (dslot s.1 s.2).view.read (Elt F) f = X) :
    k0_pay129 d (drM.view.readAt (Elt F) (drR s.1 s.2).toLoadRect f) = addf d X := by
  subst hf
  unfold k0_pay129; exact shapeCast_self _ _

/-! ## A stage -/

/-- What a device uses up in stage `s`: the four duties of its two transfers, its positions at its own four cells, the
    credits its partner's two transfers give it. -/
def stageRes (c : Dev nD) (s : Fin 5) : sProp 𝕄 :=
  iprop(dutyTok ER (cell c (.ns s)) 0 0 ∗ dutyTok ER (cell (p s.1 c) (.nr s)) 0 0 ∗ dutyTok ER (cell c (.ds s)) 0 0 ∗ dutyTok ER (cell (p s.1 c) (.dr s)) 0 0
    ∗ atPos ER (cell c (.ns s)) 0 ∅ 0 ∗ atPos ER (cell c (.nr s)) 0 ∅ 0 ∗ atPos ER (cell c (.ds s)) 0 ∅ 0 ∗ atPos ER (cell c (.dr s)) 0 ∅ 0
    ∗ cred (tallyAt (cell c (.nr s)) () NN) ∗ cred (tallyAt (cell c (.dr s)) () ND))

/-- What it has afterwards: its two landing slots and its four semaphores at zero. -/
def stageOut (c : Dev nD) (s : Fin 5) : sProp 𝕄 :=
  iprop(slots s.1 s.2 c ∗ semVal (cell c (.ns s)) 0 ∗ semVal (cell c (.nr s)) 0 ∗ semVal (cell c (.ds s)) 0 ∗ semVal (cell c (.dr s)) 0)

/-- What it computes with: numerators, denominators after `s` stages, and the buffer the numerators are sent from. -/
def acc (c : Dev nD) (s : ℕ) : sProp 𝕄 :=
  iprop(numPts c (NUM n0 s c) ∗ denPts c (DEN d0 s c) ∗ ∃ X, nsPts c X)

theorem NUM_succ (s : ℕ) (c : Dev nD) : NUM n0 (s + 1) c = addf (NUM n0 s c) (extf .f32 (sentN n0 s (p s c)) bitsLt_bf16_f32) := rfl
theorem DEN_succ (s : ℕ) (c : Dev nD) : DEN d0 (s + 1) c = addf (DEN d0 s c) (DEN d0 s (p s c)) := rfl

theorem rest_ns (c : Dev nD) (s : Fin 5) : rest n0 d0 c (.ns s) = nsPts c (sentN n0 s.1 c) := bigSep_singleton
theorem rest_ds (c : Dev nD) (s : Fin 5) : rest n0 d0 c (.ds s) = denPts c (DEN d0 s.1 c) := bigSep_singleton
theorem rest_nr (c : Dev nD) (s : Fin 5) : rest n0 d0 c (.nr s)
    = iprop(∃ f, ⌜(nslot s.1 s.2).view.read (Elt F) f = sentN n0 s.1 (p s.1 c)⌝ ∗ ((nslot s.1 s.2).view.loc (c : Thread nD τ) ↦[(nslot s.1 s.2).view.set]{fullShare} f)) :=
  bigSep_singleton
theorem rest_dr (c : Dev nD) (s : Fin 5) : rest n0 d0 c (.dr s)
    = iprop(∃ f, ⌜(dslot s.1 s.2).view.read (Elt F) f = DEN d0 s.1 (p s.1 c)⌝ ∗ ((dslot s.1 s.2).view.loc (c : Thread nD τ) ↦[(dslot s.1 s.2).view.set]{fullShare} f)) :=
  bigSep_singleton

set_option maxHeartbeats 1600000 in
theorem stage_wp (c : Dev nD) (s : Fin 5) (n1 n2 : Dev nD) (h1 : n1 = p s.1 c) (h2 : n2 = p s.1 c) (t : List (ℕ × CK)) (ht : ∀ y ∈ t, 2 + s.1 < lvK y.2)
    (W : Waits sig Unit) (Q : PUnit → sProp 𝕄) :
    iprop(records n0 d0 κ ∗ levAts L lv ∗ acc n0 d0 c s.1 ∗ slots s.1 s.2 (p s.1 c) ∗ owes (c : Thread nD τ) (owed c ((s.1, CK.nr s) :: (s.1, CK.dr s) :: t)) W ∗ stageRes c s)
      ⊢ iprop((∀ W', acc n0 d0 c (s.1 + 1) -∗ stageOut c s -∗ owes (c : Thread nD τ) (owed c t) W' -∗ Q ⟨⟩)
        -∗ wp frame (wpE (defs₀ (F := F)) 𝒱₀ (c : Thread nD τ) none) Set.univ (stageProg s.1 s.2 n1 n2) Q) := by
  have h0 : ∀ y ∈ t, 0 < lvK y.2 := fun y hy => lt_of_le_of_lt (Nat.zero_le _) (ht y hy)
  unfold acc slots stageRes stageProg
  iintro ⟨#HR, #Hlev, ⟨Hn, Hd, ⟨%X, Hs⟩⟩, ⟨Hsn, Hsd⟩, HO, Htns, Htnr, Htds, Htdr, Hans, Hanr, Hads, Hadr, Hcn, Hcd⟩ HQ
  simp only [Prog.lift, Prog.bind_op, Prog.bind_ret, Prog.pure_eq_ret]
  iapply (wp_load 𝒱₀ (c : Thread nD τ) none Set.univ (m := numM) (View.setOn_subset_set _ _)) $$ Hn
  iintro Hn
  iapply (wp_load 𝒱₀ (c : Thread nD τ) none Set.univ (m := nsM) (View.setOn_subset_set _ _)) $$ Hs
  iintro Hs
  iapply (wp_store 𝒱₀ (c : Thread nD τ) none Set.univ (m := nsM) (r := rN) (Mk := Finset.univ) (View.setOn_subset_set (nsM.view.slice rN) _ |>.trans (View.set_slice_subset _ _))) $$ Hs
  iintro Hs
  rw [ns_store, num_load, pay_send]
  iapply (wp_send_num n0 d0 κ c s n1 h1 ((s.1, CK.dr s) :: t) W) $$ [Hs Hsn HO Htns Htnr]
  · isplitr; · iexact HR
    isplitl [Hs]; · iexact Hs
    isplitl [Hsn]; · iexact Hsn
    isplitl [HO]; · iexact HO
    isplitl [Htns]; · iexact Htns
    iexact Htnr
  iintro ⟨Hcs, HO⟩
  iapply (wp_send_den n0 d0 κ c s n2 h2 t W) $$ [Hd Hsd HO Htds Htdr]
  · isplitr; · iexact HR
    isplitl [Hd]; · iexact Hd
    isplitl [Hsd]; · iexact Hsd
    isplitl [HO]; · iexact HO
    isplitl [Htds]; · iexact Htds
    iexact Htdr
  iintro ⟨Hct, HO⟩
  iapply (wp_wait_ns n0 d0 κ c s t h0 W) $$ [Hcs HO Hans]
  · isplitr; · iexact HR
    isplitr; · iexact Hlev
    isplitl [Hcs]; · iexact Hcs
    isplitl [HO]; · iexact HO
    iexact Hans
  iintro ⟨HO, Hz1, Hp1⟩
  iapply (wp_wait_nr n0 d0 κ c s t ht _) $$ [Hcn HO Hanr]
  · isplitr; · iexact HR
    isplitr; · iexact Hlev
    isplitl [Hcn]; · iexact Hcn
    isplitl [HO]; · iexact HO
    iexact Hanr
  iintro ⟨HO, Hz2, Hp2⟩
  iapply (wp_wait_ds n0 d0 κ c s t h0 _) $$ [Hct HO Hads]
  · isplitr; · iexact HR
    isplitr; · iexact Hlev
    isplitl [Hct]; · iexact Hct
    isplitl [HO]; · iexact HO
    iexact Hads
  iintro ⟨HO, Hz3, Hp3⟩
  iapply (wp_wait_dr n0 d0 κ c s t ht _) $$ [Hcd HO Hadr]
  · isplitr; · iexact HR
    isplitr; · iexact Hlev
    isplitl [Hcd]; · iexact Hcd
    isplitl [HO]; · iexact HO
    iexact Hadr
  iintro ⟨HO, Hz4, Hp4⟩
  ihave Hs := (Entails.of_eq (rest_ns n0 d0 c s)) $$ Hp1
  ihave Hd := (Entails.of_eq (rest_ds n0 d0 c s)) $$ Hp3
  ihave Hp2 := (Entails.of_eq (rest_nr n0 d0 c s)) $$ Hp2
  ihave Hp4 := (Entails.of_eq (rest_dr n0 d0 c s)) $$ Hp4
  icases Hp2 with ⟨%fn, %hfn, Hfn⟩
  icases Hp4 with ⟨%fd, %hfd, Hfd⟩
  iapply (wp_load 𝒱₀ (c : Thread nD τ) none Set.univ (m := numM) (View.setOn_subset_set _ _)) $$ Hn
  iintro Hn
  iapply (wp_load 𝒱₀ (c : Thread nD τ) none Set.univ (m := nrM) (nslot_set s).ge) $$ Hfn
  iintro Hfn
  iapply (wp_load 𝒱₀ (c : Thread nD τ) none Set.univ (m := numM) (View.setOn_subset_set _ _)) $$ Hn
  iintro Hn
  iapply (wp_store 𝒱₀ (c : Thread nD τ) none Set.univ (m := numM) (r := rN) (Mk := Finset.univ) (View.setOn_subset_set (numM.view.slice rN) _ |>.trans (View.set_slice_subset _ _))) $$ Hn
  iintro Hn
  iapply (wp_load 𝒱₀ (c : Thread nD τ) none Set.univ (m := denM) (View.setOn_subset_set _ _)) $$ Hd
  iintro Hd
  iapply (wp_load 𝒱₀ (c : Thread nD τ) none Set.univ (m := drM) (dslot_set s).ge) $$ Hfd
  iintro Hfd
  iapply (wp_load 𝒱₀ (c : Thread nD τ) none Set.univ (m := denM) (View.setOn_subset_set _ _)) $$ Hd
  iintro Hd
  iapply (wp_store 𝒱₀ (c : Thread nD τ) none Set.univ (m := denM) (r := rD) (Mk := Finset.univ) (View.setOn_subset_set (denM.view.slice rD) _ |>.trans (View.set_slice_subset _ _))) $$ Hd
  iintro Hd
  rw [num_store, num_load, pay_num _ s fn _ hfn, den_store, den_load, pay_den _ s fd _ hfd]
  rw [wp_ret]
  imodintro
  iapply HQ $$ [Hn Hd Hs] [Hfn Hfd Hz1 Hz2 Hz3 Hz4] HO
  · rw [NUM_succ, DEN_succ]
    isplitl [Hn]; · iexact Hn
    isplitl [Hd]; · iexact Hd
    iexists _; iexact Hs
  · unfold stageOut slots nOwn dOwn owns
    isplitl [Hfn Hfd]
    · isplitl [Hfn]
      · iexists _; iexists fn; isplitr
        · ipureintro; exact hfn
        iexact Hfn
      · iexists _; iexists fd; isplitr
        · ipureintro; exact hfd
        iexact Hfd
    isplitl [Hz1]; · iexact Hz1
    isplitl [Hz2]; · iexact Hz2
    isplitl [Hz3]; · iexact Hz3
    iexact Hz4

end Cert.KernelIdeal.AllReduce

end
-- ==== Proof.KernelIdeal.Tail.lean ====
/-
# After the blocks: the handshakes and the output

The handshake with the five partners, at the start and at the end, and the two batches of the output: each head's
numerators over its denominators, projected, and the four heads added.
-/
module

public import proofs.«01_k».proof.Proof.KernelIdeal.Steps

@[expose] public section

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Out
variable (N : Vec F S2x4x64x256 .f32) (D : Vec F S8x256 .f32) (wo : Vec F S256x512 .f32)

/-! ## The output -/

/-- One head's share of batch `b`. -/
def headVal (b : Fin 2) (h : Fin 4) : FVec F S256x512 .f32 :=
  headOut (numM.view.readAt (Elt F) (rHN b h).toLoadRect N) (denM.view.readAt (Elt F) (rHD b h).toLoadRect D)
    (woM.view.readAt (Elt F) (rHW h).toLoadRect wo)

/-- Batch `b` of the output. -/
def batchVal (b : Fin 2) : FVec F S256x512 .f32 :=
  addf (addf (addf (addf (broadcast S256x512 (Scalar.ofBits .f32 0x00000000#32 : F .f32)) (headVal N D wo b 0)) (headVal N D wo b 1)) (headVal N D wo b 2))
    (headVal N D wo b 3)

def at512 (a : Fin 256) (b : Fin 512) : S256x512.Idx := fun i => match i with
  | 0 => a
  | 1 => b

/-- The whole output. -/
def OUT : Vec F S2x256x512 .f32 := fun y => batchVal N D wo (y 0) (at512 (y 1) (y 2))

def outPiece (b : Fin 2) : View.Piece (Elt F) S2x256x512 .f32 :=
  ⟨rX b, shapeCast S1x256x512 (batchVal N D wo b) shapeCasts_S256x512_S1x256x512⟩

theorem OUT_at (b : Fin 2) (q : Fin 256) (m : Fin 512) (y : S2x256x512.Idx) (h0 : (y 0).val = b.1) (h1 : (y 1).val = q.1) (h2 : (y 2).val = m.1) :
    OUT N D wo y = batchVal N D wo b (at512 q m) := by
  have key : ∀ (b' : Fin 2) (q' : Fin 256) (m' : Fin 512), b' = b → q' = q → m' = m →
      batchVal N D wo b' (at512 q' m') = batchVal N D wo b (at512 q m) := by
    rintro _ _ _ rfl rfl rfl; rfl
  exact key _ _ _ (Fin.ext h0) (Fin.ext h1) (Fin.ext h2)

theorem outPiece_eq (b : Fin 2) (j : S1x256x512.Idx) :
    shapeCast S1x256x512 (batchVal N D wo b) shapeCasts_S256x512_S1x256x512 j = OUT N D wo ((rX b).emb j) := by
  have j0 : (j 0).val < 1 := (j 0).2
  refine Eq.trans (shapeCast_apply _ _ j (at512 (j 1) (j 2)) ?_) (OUT_at N D wo b (j 1) (j 2) _ ?_ ?_ ?_).symm
  · rw [Shape.rowMajor_val_three, Shape.rowMajor_val_two]
    show (j 1).val * 512 + (j 2).val = ((j 0).val * 256 + (j 1).val) * 512 + (j 2).val
    omega
  · show b.1 + 1 * (j 0).val = b.1; omega
  · show 0 + 1 * (j 1).val = (j 1).val; omega
  · show 0 + 1 * (j 2).val = (j 2).val; omega

theorem out_cover (y : S2x256x512.Idx) : ∃ p ∈ [outPiece N D wo 1, outPiece N D wo 0], y ∈ p.1.set := by
  have h : outPiece N D wo (y 0) ∈ [outPiece N D wo 1, outPiece N D wo 0] := by
    have : ∀ b : Fin 2, outPiece N D wo b ∈ [outPiece N D wo 1, outPiece N D wo 0] := by
      intro b; fin_cases b
      · exact List.mem_cons_of_mem _ List.mem_cons_self
      · exact List.mem_cons_self
    exact this (y 0)
  refine ⟨_, h, ?_⟩
  unfold outPiece
  rw [Rect.mem_set_unit]
  intro a
  have h1 : (y 1).val < 256 := (y 1).2
  have h2 : (y 2).val < 512 := (y 2).2
  match a with
  | 0 => exact ⟨Nat.le_refl _, Nat.lt_succ_self _⟩
  | 1 => exact ⟨Nat.zero_le _, by show (y 1).val < 0 + 256; omega⟩
  | 2 => exact ⟨Nat.zero_le _, by show (y 2).val < 0 + 512; omega⟩

theorem out_read (f : Vec F S2x256x512 .f32) (y : S2x256x512.Idx) : outM.view.read (Elt F) f y = f y := rfl

theorem out_writes (f : Vec F S2x256x512 .f32) :
    (outM.access (rX 1)).write (Elt F) ((outM.access (rX 0)).write (Elt F) f (shapeCast S1x256x512 (batchVal N D wo 0) shapeCasts_S256x512_S1x256x512) Finset.univ)
        (shapeCast S1x256x512 (batchVal N D wo 1) shapeCasts_S256x512_S1x256x512) Finset.univ = OUT N D wo := by
  show outM.view.writes (Elt F) f [outPiece N D wo 1, outPiece N D wo 0] = OUT N D wo
  funext y
  refine (out_read _ y).symm.trans ?_
  refine View.read_writes_apply_of_pieces outM.view f (OUT N D wo) [outPiece N D wo 1, outPiece N D wo 0] (fun p hp j => ?_) y (out_cover N D wo y)
  rcases List.mem_cons.mp hp with rfl | hp
  · exact outPiece_eq N D wo 1 j
  · obtain rfl := List.mem_singleton.mp hp
    exact outPiece_eq N D wo 0 j

/-- The three buffers that the output is computed from. -/
def srcs (c : Dev nD) : sProp 𝕄 :=
  iprop(numPts c N ∗ denPts c D ∗ (woM.view.loc (c : Thread nD τ) ↦{fullShare} wo))

theorem head_wp (c : Dev nD) (b : Fin 2) (h : Fin 4) (a : FVec F S256x512 .f32) (Q : FVec F S256x512 .f32 → sProp 𝕄) :
    srcs N D wo c ⊢ iprop((srcs N D wo c -∗ Q (addf a (headVal N D wo b h)))
      -∗ wp frame (wpE (defs₀ (F := F)) 𝒱₀ (c : Thread nD τ) none) Set.univ (headProg b h a) Q) := by
  unfold srcs headProg
  iintro ⟨Hn, Hd, Hw⟩ HQ
  simp only [Prog.lift, Prog.bind_op, Prog.bind_ret, Prog.pure_eq_ret]
  iapply (wp_load 𝒱₀ (c : Thread nD τ) none Set.univ (m := numM) (View.setOn_subset_set _ _)) $$ Hn
  iintro Hn
  iapply (wp_load 𝒱₀ (c : Thread nD τ) none Set.univ (m := denM) (View.setOn_subset_set _ _)) $$ Hd
  iintro Hd
  iapply (wp_load 𝒱₀ (c : Thread nD τ) none Set.univ (m := woM) (Finset.subset_univ _)) $$ Hw
  iintro Hw
  rw [wp_ret]
  imodintro
  unfold headVal
  iapply HQ
  isplitl [Hn]; · iexact Hn
  isplitl [Hd]; · iexact Hd
  iexact Hw

theorem batch_wp (c : Dev nD) (b : Fin 2) (f : Vec F S2x256x512 .f32) (Q : PUnit → sProp 𝕄) :
    iprop(srcs N D wo c ∗ (outM.view.loc (c : Thread nD τ) ↦{fullShare} f))
      ⊢ iprop((srcs N D wo c -∗ (outM.view.loc (c : Thread nD τ) ↦{fullShare} ((outM.access (rX b)).write (Elt F) f (shapeCast S1x256x512 (batchVal N D wo b) shapeCasts_S256x512_S1x256x512) Finset.univ)) -∗ Q ⟨⟩)
        -∗ wp frame (wpE (defs₀ (F := F)) 𝒱₀ (c : Thread nD τ) none) Set.univ (batchProg b) Q) := by
  unfold batchProg batchVal
  iintro ⟨Hs, Ho⟩ HQ
  simp only [wp_bind]
  iapply (head_wp N D wo c b 0 _) $$ Hs
  iintro Hs
  iapply (head_wp N D wo c b 1 _) $$ Hs
  iintro Hs
  iapply (head_wp N D wo c b 2 _) $$ Hs
  iintro Hs
  iapply (head_wp N D wo c b 3 _) $$ Hs
  iintro Hs
  simp only [Prog.lift]
  iapply (wp_load 𝒱₀ (c : Thread nD τ) none Set.univ (m := outM) (Finset.subset_univ _)) $$ Ho
  iintro Ho
  rw [wp_ret]; imodintro
  iapply (wp_store 𝒱₀ (c : Thread nD τ) none Set.univ (m := outM) (r := rX b) (Mk := Finset.univ) (Finset.subset_univ _)) $$ Ho
  iintro Ho
  rw [wp_ret]; imodintro
  iapply HQ $$ Hs Ho

end Out

/-! ## The handshakes -/

variable (n0 : Dev nD → Vec F S2x4x64x256 .f32) (d0 : Dev nD → Vec F S8x256 .f32) (κ : Dev nD × CK → ℕ)

/-- What a device gives up at its signal to partner `s`. -/
def sig1 (c : Dev nD) (x : CK) (s : Fin 5) : sProp 𝕄 :=
  iprop(dutyTok ER (cell (p s.1 c) x) 0 s ∗ payOf (sentN n0) (DEN d0) (p s.1 c) s x)
def sigs (c : Dev nD) (x : CK) : sProp 𝕄 :=
  iprop(sig1 n0 d0 c x 0 ∗ sig1 n0 d0 c x 1 ∗ sig1 n0 d0 c x 2 ∗ sig1 n0 d0 c x 3 ∗ sig1 n0 d0 c x 4)

theorem wp_sig1 (c : Dev nD) (s : Fin 5) (d : Dev nD) (hdv : d = p s.1 c) (x : CK) (sem : Sem sig) (hx : csem x = .reg sem) (ha : amt x = 1) (hd : dutiesOf x = Finset.univ)
    (t : List (ℕ × CK)) (W : Waits sig Unit) (Q : PUnit → sProp 𝕄) :
    iprop(records n0 d0 κ ∗ owes (c : Thread nD τ) (owed c ((s.1, x) :: t)) W ∗ sig1 n0 d0 c x s)
      ⊢ iprop((owes (c : Thread nD τ) (owed c t) W -∗ Q ⟨⟩)
        -∗ wp frame (wpE (defs₀ (F := F)) 𝒱₀ (c : Thread nD τ) none) Set.univ (semSignalWord d sem 1#32) Q) := by
  subst hdv
  have e : (semSignalWord (p s.1 c) sem 1#32 : Prog (TpuEff nD τ sig (Elt F) Λ₀ .tc) PUnit)
      = .op (.semSignal (p s.1 c, .tc) sem (1#32).toInt) .ret := rfl
  rw [e]
  unfold sig1
  iintro ⟨#HR, HO, Ht, Hp⟩ HQ
  iapply (wp_shake n0 d0 κ c s x sem hx ha hd t W (Q := Q) (k := .ret)) $$ [HO Ht Hp]
  · isplitr; · iexact HR
    isplitl [HO]; · iexact HO
    isplitl [Ht]; · iexact Ht
    iexact Hp
  iintro HO
  rw [wp_ret]; imodintro
  iapply HQ $$ HO

theorem shake_wp (c : Dev nD) (d : Fin 5 → Dev nD) (hdv : ∀ s, d s = p s.1 c) (x : CK) (sem : Sem sig) (hx : csem x = .reg sem) (ha : amt x = 1)
    (hd : dutiesOf x = Finset.univ) (hT : total x = 5) (t : List (ℕ × CK)) (ht : ∀ y ∈ t, lvK x < lvK y.2) (W : Waits sig Unit) (Q : PUnit → sProp 𝕄) :
    iprop(records n0 d0 κ ∗ levAts L lv ∗ owes (c : Thread nD τ) (owed c ((0, x) :: (1, x) :: (2, x) :: (3, x) :: (4, x) :: t)) W ∗ sigs n0 d0 c x
        ∗ atPos ER (cell c x) 0 ∅ 0 ∗ cred (tallyAt (cell c x) () (total x)))
      ⊢ iprop((∀ W', owes (c : Thread nD τ) (owed c t) W' -∗ semVal (cell c x) 0 -∗ rest n0 d0 c x -∗ Q ⟨⟩)
        -∗ wp frame (wpE (defs₀ (F := F)) 𝒱₀ (c : Thread nD τ) none) Set.univ (shakeProg sem d) Q) := by
  unfold sigs shakeProg
  iintro ⟨#HR, #Hlev, HO, ⟨H0, H1, H2, H3, H4⟩, Ha, Hc⟩ HQ
  simp only [wp_bind]
  iapply (wp_sig1 n0 d0 κ c 0 (d 0) (hdv 0) x sem hx ha hd _ W _) $$ [HO H0]
  · isplitr; · iexact HR
    isplitl [HO]; · iexact HO
    iexact H0
  iintro HO
  iapply (wp_sig1 n0 d0 κ c 1 (d 1) (hdv 1) x sem hx ha hd _ W _) $$ [HO H1]
  · isplitr; · iexact HR
    isplitl [HO]; · iexact HO
    iexact H1
  iintro HO
  iapply (wp_sig1 n0 d0 κ c 2 (d 2) (hdv 2) x sem hx ha hd _ W _) $$ [HO H2]
  · isplitr; · iexact HR
    isplitl [HO]; · iexact HO
    iexact H2
  iintro HO
  iapply (wp_sig1 n0 d0 κ c 3 (d 3) (hdv 3) x sem hx ha hd _ W _) $$ [HO H3]
  · isplitr; · iexact HR
    isplitl [HO]; · iexact HO
    iexact H3
  iintro HO
  iapply (wp_sig1 n0 d0 κ c 4 (d 4) (hdv 4) x sem hx ha hd _ W _) $$ [HO H4]
  · isplitr; · iexact HR
    isplitl [HO]; · iexact HO
    iexact H4
  iintro HO
  unfold semWaitWord
  iapply (wp_waits n0 d0 κ c x t ht W (k' := (5#32).toInt.toNat) (fun K => by rw [hx]; exact wpE_semWait_eq 𝒱₀ (c : Thread nD τ) none Set.univ K) (by rw [hT]; decide)) $$ [HO Ha Hc]
  · isplitr; · iexact HR
    isplitr; · iexact Hlev
    isplitl [Hc]; · iexact Hc
    isplitl [HO]; · iexact HO
    iexact Ha
  iintro ⟨HO, Hz, Hr⟩
  rw [wp_ret]; imodintro
  iapply HQ $$ HO Hz Hr

end Cert.KernelIdeal.AllReduce

end
-- ==== Proof.KernelIdeal.Body.lean ====
/-
# One device's run of the kernel

Everything after the blocks is the first handshake, the five stages, the two batches of the output and the handshake
at the end; the run of the whole kernel puts the blocks before it.
-/
module

public import proofs.«01_k».proof.Proof.KernelIdeal.Tail

@[expose] public section

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (n0 : Dev nD → Vec F S2x4x64x256 .f32) (d0 : Dev nD → Vec F S8x256 .f32) (κ : Dev nD × CK → ℕ)

abbrev five (Φ : Fin 5 → sProp 𝕄) : sProp 𝕄 := iprop(Φ 0 ∗ Φ 1 ∗ Φ 2 ∗ Φ 3 ∗ Φ 4)

theorem bigSep_five (Φ : Fin 5 → sProp 𝕄) : bigSep Finset.univ Φ = five Φ :=
  bigSep_univ_eq_bigSepL [0, 1, 2, 3, 4] (by decide) (by decide) Φ

/-! ## After the blocks -/

/-- What a device uses up in a handshake: its position at its own cell and the credit of its five partners, the five
    duties it pays. -/
def shakeRes (c : Dev nD) (x : CK) : sProp 𝕄 :=
  iprop(atPos ER (cell c x) 0 ∅ 0 ∗ cred (tallyAt (cell c x) () (total x)) ∗ five fun s => dutyTok ER (cell (p s.1 c) x) 0 s)

/-- All a device uses up. -/
def lin (c : Dev nD) : sProp 𝕄 := iprop(shakeRes c .bar ∗ shakeRes c .exit ∗ five (stageRes c))

/-- What is left: its landing slots, and all its semaphores at zero. -/
def left (c : Dev nD) : sProp 𝕄 := iprop(semVal (cell c .bar) 0 ∗ semVal (cell c .exit) 0 ∗ five (stageOut c))

theorem sigs_bar (c : Dev nD) : iprop((five fun s => dutyTok ER (cell (p s.1 c) .bar) 0 s) ∗ five fun s => slots (F := F) s.1 s.2 c) ⊢ sigs n0 d0 c .bar := by
  have e : ∀ s : Fin 5, payOf (sentN n0) (DEN d0) (p s.1 c) s .bar = slots s.1 s.2 c := fun s => by
    show slots s.1 s.2 (p s.1 (p s.1 c)) = _; rw [p_p s.1 s.2]
  unfold sigs sig1
  rw [e 0, e 1, e 2, e 3, e 4]
  iintro ⟨⟨T0, T1, T2, T3, T4⟩, S0, S1, S2, S3, S4⟩
  isplitl [T0 S0]; · isplitl [T0] <;> iassumption
  isplitl [T1 S1]; · isplitl [T1] <;> iassumption
  isplitl [T2 S2]; · isplitl [T2] <;> iassumption
  isplitl [T3 S3]; · isplitl [T3] <;> iassumption
  isplitl [T4] <;> iassumption

theorem sigs_exit (c : Dev nD) : (five fun s => dutyTok ER (cell (p s.1 c) .exit) 0 s) ⊢ sigs n0 d0 c .exit := by
  have e : ∀ s : Fin 5, payOf (sentN n0) (DEN d0) (p s.1 c) s .exit = iprop(emp) := fun s => rfl
  unfold sigs sig1
  rw [e 0, e 1, e 2, e 3, e 4]
  iintro ⟨T0, T1, T2, T3, T4⟩
  isplitl [T0]; · isplitl [T0]; · iexact T0
                  iempintro
  isplitl [T1]; · isplitl [T1]; · iexact T1
                  iempintro
  isplitl [T2]; · isplitl [T2]; · iexact T2
                  iempintro
  isplitl [T3]; · isplitl [T3]; · iexact T3
                  iempintro
  isplitl [T4]; · iexact T4
  iempintro

theorem rest_bar' (c : Dev nD) : rest n0 d0 c .bar = five fun s => slots s.1 s.2 (p s.1 c) := bigSep_five _

set_option maxHeartbeats 1600000 in
theorem tail_wp (c : Dev nD) (wo : Vec F S256x512 .f32) (f : Vec F S2x256x512 .f32) (W : Waits sig Unit) (Q : PUnit → sProp 𝕄) :
    iprop(records n0 d0 κ ∗ levAts L lv ∗ owes (c : Thread nD τ) (O₀ c) W ∗ lin c ∗ (five fun s => slots s.1 s.2 c) ∗ acc n0 d0 c 0
        ∗ (woM.view.loc (c : Thread nD τ) ↦{fullShare} wo) ∗ (outM.view.loc (c : Thread nD τ) ↦{fullShare} f))
      ⊢ iprop((∀ W', owes (c : Thread nD τ) 0 W' -∗ acc n0 d0 c 5 -∗ (woM.view.loc (c : Thread nD τ) ↦{fullShare} wo)
            -∗ (outM.view.loc (c : Thread nD τ) ↦{fullShare} OUT (NUM n0 5 c) (DEN d0 5 c) wo) -∗ left c -∗ Q ⟨⟩)
        -∗ wp frame (wpE (defs₀ (F := F)) 𝒱₀ (c : Thread nD τ) none) Set.univ (tailProg c) Q) := by
  unfold lin shakeRes tailProg
  iintro ⟨#HR, #Hlev, HO, ⟨⟨HaB, HcB, HtB⟩, ⟨HaE, HcE, HtE⟩, S0, S1, S2, S3, S4⟩, Hsl, HA, Hw, Ho⟩ HQ
  simp only [wp_bind]
  ihave Hs := (sigs_bar n0 d0 c) $$ [HtB Hsl]
  · isplitl [HtB] <;> iassumption
  iapply (shake_wp n0 d0 κ c (barDev c) (fun s => congrFun (dev_eq c).1 s) .bar barS rfl rfl rfl rfl (payT.drop 5) (by decide) W _) $$ [HO Hs HaB HcB]
  · isplitr; · iexact HR
    isplitr; · iexact Hlev
    isplitl [HO]; · iexact HO
    isplitl [Hs]; · iexact Hs
    isplitl [HaB] <;> iassumption
  iintro %W' HO HzB Hr
  ihave Hr := (Entails.of_eq (rest_bar' n0 d0 c)) $$ Hr
  icases Hr with ⟨R0, R1, R2, R3, R4⟩
  iapply (stage_wp n0 d0 κ c 0 _ _ (dev_eq c).2.2.1 (dev_eq c).2.2.2.1 (payT.drop 7) (by decide) _ _) $$ [HA R0 HO S0]
  · isplitr; · iexact HR
    isplitr; · iexact Hlev
    isplitl [HA]; · iexact HA
    isplitl [R0]; · iexact R0
    isplitl [HO]; · iexact HO
    iexact S0
  iintro %W0 HA O0 HO
  iapply (stage_wp n0 d0 κ c 1 _ _ (dev_eq c).2.2.2.2.1 (dev_eq c).2.2.2.2.2.1 (payT.drop 9) (by decide) _ _) $$ [HA R1 HO S1]
  · isplitr; · iexact HR
    isplitr; · iexact Hlev
    isplitl [HA]; · iexact HA
    isplitl [R1]; · iexact R1
    isplitl [HO]; · iexact HO
    iexact S1
  iintro %W1 HA O1 HO
  iapply (stage_wp n0 d0 κ c 2 _ _ (dev_eq c).2.2.2.2.2.2.1 (dev_eq c).2.2.2.2.2.2.2.1 (payT.drop 11) (by decide) _ _) $$ [HA R2 HO S2]
  · isplitr; · iexact HR
    isplitr; · iexact Hlev
    isplitl [HA]; · iexact HA
    isplitl [R2]; · iexact R2
    isplitl [HO]; · iexact HO
    iexact S2
  iintro %W2 HA O2 HO
  iapply (stage_wp n0 d0 κ c 3 _ _ (dev_eq c).2.2.2.2.2.2.2.2.1 (dev_eq c).2.2.2.2.2.2.2.2.2.1 (payT.drop 13) (by decide) _ _) $$ [HA R3 HO S3]
  · isplitr; · iexact HR
    isplitr; · iexact Hlev
    isplitl [HA]; · iexact HA
    isplitl [R3]; · iexact R3
    isplitl [HO]; · iexact HO
    iexact S3
  iintro %W3 HA O3 HO
  iapply (stage_wp n0 d0 κ c 4 _ _ (dev_eq c).2.2.2.2.2.2.2.2.2.2.1 (dev_eq c).2.2.2.2.2.2.2.2.2.2.2 (payT.drop 15) (by decide) _ _) $$ [HA R4 HO S4]
  · isplitr; · iexact HR
    isplitr; · iexact Hlev
    isplitl [HA]; · iexact HA
    isplitl [R4]; · iexact R4
    isplitl [HO]; · iexact HO
    iexact S4
  iintro %W4 HA O4 HO
  unfold acc
  icases HA with ⟨Hn, Hd, Hns⟩
  iapply (batch_wp (NUM n0 5 c) (DEN d0 5 c) wo c 0 f _) $$ [Hn Hd Hw Ho]
  · unfold srcs
    isplitl [Hn Hd Hw]
    · isplitl [Hn]; · iexact Hn
      isplitl [Hd]; · iexact Hd
      iexact Hw
    iexact Ho
  iintro Hsr Ho
  iapply (batch_wp (NUM n0 5 c) (DEN d0 5 c) wo c 1 _ _) $$ [Hsr Ho]
  · isplitl [Hsr]; · iexact Hsr
    iexact Ho
  iintro Hsr Ho
  rw [out_writes]
  unfold srcs
  icases Hsr with ⟨Hn, Hd, Hw⟩
  ihave Hs := (sigs_exit n0 d0 c) $$ HtE
  iapply (shake_wp n0 d0 κ c (exitDev c) (fun s => congrFun (dev_eq c).2.1 s) .exit exitS rfl rfl rfl rfl [] (by decide) _ _) $$ [HO Hs HaE HcE]
  · isplitr; · iexact HR
    isplitr; · iexact Hlev
    isplitl [HO]; · iexact HO
    isplitl [Hs]; · iexact Hs
    isplitl [HaE] <;> iassumption
  iintro %W'' HO HzE -
  ihave HO := (Entails.of_eq (show owes (c : Thread nD τ) (owed c []) W'' = (owes (c : Thread nD τ) 0 W'' : sProp 𝕄) from rfl)) $$ HO
  iapply HQ $$ HO [Hn Hd Hns] Hw Ho [HzB HzE O0 O1 O2 O3 O4]
  · isplitl [Hn]; · iexact Hn
    isplitl [Hd] <;> iassumption
  · unfold left
    isplitl [HzB]; · iexact HzB
    isplitl [HzE]; · iexact HzE
    isplitl [O0]; · iexact O0
    isplitl [O1]; · iexact O1
    isplitl [O2]; · iexact O2
    isplitl [O3] <;> iassumption

end Cert.KernelIdeal.AllReduce

end
-- ==== Proof.KernelIdeal.Run.lean ====
/-
# The blocks, and the body as the pipeline runs it

First the thirty-two blocks of a device's own keys: after them the two accumulators hold `NUM0` and `DEN0` of the
device's windows. Then the data of the one grid point: what the windows hold, what the device starts from and what it
ends with.
-/
module

public import proofs.«01_k».proof.Proof.KernelIdeal.Body
public import Idealize.ShloMosaic.Lib.Exec

@[expose] public section

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

local notation "𝕄" => MT nD τ sig Unit (Elt F) ℕ UU ℕ

/-! ## The blocks -/

/-- The kernel's body at its buffers. -/
abbrev body : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8 cc0_scoped0

/-- The four windows the blocks read, and the accumulators after the blocks. -/
def blocksDone (c : Dev nD) (x : (cc0_stg0_0 : Ref sig .tc).ty.Contents (Elt F)) (wq : (cc0_stg1_0 : Ref sig .tc).ty.Contents (Elt F))
    (k : (cc0_stg2_0 : Ref sig .tc).ty.Contents (Elt F)) (v : (cc0_stg3_0 : Ref sig .tc).ty.Contents (Elt F)) : sProp 𝕄 :=
  iprop(((Memref.whole cc0_stg0_0).view.loc (c : Thread nD τ) ↦{fullShare} x) ∗ ((Memref.whole cc0_stg1_0).view.loc (c : Thread nD τ) ↦{fullShare} wq)
    ∗ ((Memref.whole cc0_stg2_0).view.loc (c : Thread nD τ) ↦{fullShare} k) ∗ ((Memref.whole cc0_stg3_0).view.loc (c : Thread nD τ) ↦{fullShare} v)
    ∗ ((Memref.whole cc0_scratch0).view.loc (c : Thread nD τ) ↦{fullShare} NUM0 x wq k v)
    ∗ ((Memref.whole cc0_scratch1).view.loc (c : Thread nD τ) ↦{fullShare} DEN0 x wq k))

theorem blocks_wp (c : Dev nD) (x : (cc0_stg0_0 : Ref sig .tc).ty.Contents (Elt F)) (wq : (cc0_stg1_0 : Ref sig .tc).ty.Contents (Elt F))
    (k : (cc0_stg2_0 : Ref sig .tc).ty.Contents (Elt F)) (v : (cc0_stg3_0 : Ref sig .tc).ty.Contents (Elt F))
    (num : (cc0_scratch0 : Ref sig .tc).ty.Contents (Elt F)) (den : (cc0_scratch1 : Ref sig .tc).ty.Contents (Elt F)) (K : PUnit → sProp 𝕄) :
    iprop(((Memref.whole cc0_stg0_0).view.loc (c : Thread nD τ) ↦{fullShare} x) ∗ ((Memref.whole cc0_stg1_0).view.loc (c : Thread nD τ) ↦{fullShare} wq)
        ∗ ((Memref.whole cc0_stg2_0).view.loc (c : Thread nD τ) ↦{fullShare} k) ∗ ((Memref.whole cc0_stg3_0).view.loc (c : Thread nD τ) ↦{fullShare} v)
        ∗ ((Memref.whole cc0_scratch0).view.loc (c : Thread nD τ) ↦{fullShare} num) ∗ ((Memref.whole cc0_scratch1).view.loc (c : Thread nD τ) ↦{fullShare} den)
        ∗ (blocksDone c x wq k v -∗ wp frame (wpE (defs₀ (F := F)) 𝒱₀ (c : Thread nD τ) none) Set.univ (tailProg c) K))
      ⊢ wp frame (wpE (defs₀ (F := F)) 𝒱₀ (c : Thread nD τ) none) Set.univ body K := by
  unfold body; rw [cc0_body_eq_skeleton]; unfold cc0_body_skel
  iintro ⟨Hx, Hwq, Hk, Hv, Hn, Hd, HP⟩
  sl_exec!
  have e1 : blocks_wp.sl.Hn_32 x wq k v = blks.map (numPiece x wq k v) := rfl
  have e2 : blocks_wp.sl.Hd_32 x wq k = blks.map (denPiece x wq k) := rfl
  rw [e1, e2, num_writes, den_writes]
  simp only [← wp_bind]
  change _ ⊢ wp frame (wpE (defs₀ (F := F)) 𝒱₀ (c : Thread nD τ) none) Set.univ (tailProg c) K
  iintro ⟨⟨⟨⟨⟨⟨Hx, Hwq⟩, Hk⟩, Hv⟩, Hn⟩, Hd⟩, HP⟩
  iapply HP
  unfold blocksDone
  isplitl [Hx]; · iexact Hx
  isplitl [Hwq]; · iexact Hwq
  isplitl [Hk]; · iexact Hk
  isplitl [Hv]; · iexact Hv
  isplitl [Hn]; · iexact Hn
  iexact Hd

/-! ## The windows' contents -/

variable (m : (ℓ : Loc nD τ sig) → Buf (Elt F) ℓ) (ρ : Dev nD → PrngReg)

def xW (c : Dev nD) : (cc0_stg0_0 : Ref sig .tc).ty.Contents (Elt F) := (win0_0.blk t0_0).view.read (Elt F) (m ((c : Thread nD τ).loc main_arg0))
def wqW (c : Dev nD) : (cc0_stg1_0 : Ref sig .tc).ty.Contents (Elt F) := (win0_1.blk t0_0).view.read (Elt F) (m ((c : Thread nD τ).loc main_arg1))
def kW (c : Dev nD) : (cc0_stg2_0 : Ref sig .tc).ty.Contents (Elt F) := (win0_2.blk t0_0).view.read (Elt F) (m ((c : Thread nD τ).loc main_arg2))
def vW (c : Dev nD) : (cc0_stg3_0 : Ref sig .tc).ty.Contents (Elt F) := (win0_3.blk t0_0).view.read (Elt F) (m ((c : Thread nD τ).loc main_arg3))
def woW (c : Dev nD) : (cc0_stg4_0 : Ref sig .tc).ty.Contents (Elt F) := (win0_4.blk t0_0).view.read (Elt F) (m ((c : Thread nD τ).loc main_arg4))

abbrev n0 : Dev nD → Vec F S2x4x64x256 .f32 := fun c => NUM0 (xW m c) (wqW m c) (kW m c) (vW m c)
abbrev d0 : Dev nD → Vec F S8x256 .f32 := fun c => DEN0 (xW m c) (wqW m c) (kW m c)

/-- What device `c` writes back. -/
def outW (c : Dev nD) : (cc0_stg5_0 : Ref sig .tc).ty.Contents (Elt F) := OUT (NUM (n0 m) 5 c) (DEN (d0 m) 5 c) (woW m c)

/-! ## The data of the grid point -/

/-- The three accumulators' buffers at some contents. -/
def bufs (c : Dev nD) : sProp 𝕄 := iprop((∃ f, numPts c f) ∗ (∃ f, denPts c f) ∗ ∃ f, nsPts c f)

def start (c : Dev nD) : sProp 𝕄 := iprop((∃ κ, records (n0 m) (d0 m) κ) ∗ lin c ∗ levAts L lv)

def Φ₀ (c : Dev nD) : sProp 𝕄 := iprop(start m c ∗ (five fun s => slots s.1 s.2 c) ∗ bufs c)
def Φ₁ (c : Dev nD) : sProp 𝕄 := iprop(left c ∗ bufs c)

def dats (_ : Fin 1) (c : Dev nD) : Dat τ (Elt F) Unit ℕ UU ℕ cfg0 c where
  A w := m ((cfg0.win w).arr.view.loc (c : Thread nD τ))
  after w _ := match w with
    | ⟨0, _⟩ => xW m c
    | ⟨1, _⟩ => wqW m c
    | ⟨2, _⟩ => kW m c
    | ⟨3, _⟩ => vW m c
    | ⟨4, _⟩ => woW m c
    | ⟨5, _⟩ => outW m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 6) t0_0 d)) ∗ (∃ d, stg c cc0_stg1_0 ((dats m 0 c).before (1 : Fin 6) t0_0 d))
    ∗ (∃ d, stg c cc0_stg2_0 ((dats m 0 c).before (2 : Fin 6) t0_0 d)) ∗ (∃ d, stg c cc0_stg3_0 ((dats m 0 c).before (3 : Fin 6) t0_0 d))
    ∗ (∃ d, stg c cc0_stg4_0 ((dats m 0 c).before (4 : Fin 6) t0_0 d)) ∗ (∃ d, stg c cc0_stg5_0 ((dats m 0 c).before (5 : Fin 6) t0_0 d)))

def bodyPost (c : Dev nD) : sProp 𝕄 :=
  iprop(Φ₁ c ∗ (dats m 0 c).owesAt () t0_0.succ
    ∗ stg c cc0_stg0_0 (xW m c) ∗ stg c cc0_stg1_0 (wqW m c) ∗ stg c cc0_stg2_0 (kW m c) ∗ stg c cc0_stg3_0 (vW m c) ∗ stg c cc0_stg4_0 (woW m c)
    ∗ stg c cc0_stg5_0 (outW m c))

theorem whole_num : numM.view.set = Finset.univ := View.set_whole _
theorem whole_den : denM.view.set = Finset.univ := View.set_whole _

set_option maxHeartbeats 1600000 in
theorem sound_body (c : Dev nD) : bodyPre m c ⊢ wp frame (wpE (defs₀ (F := F)) 𝒱₀ (c : Thread nD τ) none) Set.univ body (fun _ => bodyPost m c) := by
  unfold bodyPre Φ₀ bufs start
  iintro ⟨⟨⟨⟨%κ, #HR⟩, Hlin, #Hlev⟩, Hsl, ⟨%num, Hn⟩, ⟨%den, Hd⟩, Hns⟩, Ho, ⟨%b0, %g0, %h0, H0⟩, ⟨%b1, %g1, %h1, H1⟩, ⟨%b2, %g2, %h2, H2⟩,
    ⟨%b3, %g3, %h3, H3⟩, ⟨%b4, %g4, %h4, H4⟩, ⟨%b5, %g5, %h5, H5⟩⟩
  have e0 : g0 = xW m c := by rw [h0]; unfold Dat.before; rw [if_pos (fetch0_0 t0_0)]; rfl
  have e1 : g1 = wqW m c := by rw [h1]; unfold Dat.before; rw [if_pos (fetch0_1 t0_0)]; rfl
  have e2 : g2 = kW m c := by rw [h2]; unfold Dat.before; rw [if_pos (fetch0_2 t0_0)]; rfl
  have e3 : g3 = vW m c := by rw [h3]; unfold Dat.before; rw [if_pos (fetch0_3 t0_0)]; rfl
  have e4 : g4 = woW m c := by rw [h4]; unfold Dat.before; rw [if_pos (fetch0_4 t0_0)]; rfl
  subst e0 e1 e2 e3 e4
  unfold Dat.owesAt Pipeline.owesWithin
  icases Ho with ⟨%W, %hW, HO⟩
  rw [show (dats m 0 c).owed t0_0.castSucc = O₀ c from rfl]
  iapply (blocks_wp c (xW m c) (wqW m c) (kW m c) (vW m c) num den (fun _ => bodyPost m c))
  isplitl [H0]; · iexact H0
  isplitl [H1]; · iexact H1
  isplitl [H2]; · iexact H2
  isplitl [H3]; · iexact H3
  isplitl [Hn]; · unfold numPts; rw [whole_num]; iexact Hn
  isplitl [Hd]; · unfold denPts; rw [whole_den]; iexact Hd
  unfold blocksDone
  iintro ⟨H0, H1, H2, H3, Hn, Hd⟩
  iapply (tail_wp (n0 m) (d0 m) κ c (woW m c) g5 W _) $$ [HO Hlin Hsl Hn Hd Hns H4 H5]
  · isplitr; · iexact HR
    isplitr; · iexact Hlev
    isplitl [HO]; · iexact HO
    isplitl [Hlin]; · iexact Hlin
    isplitl [Hsl]; · iexact Hsl
    isplitl [Hn Hd Hns]
    · unfold acc
      isplitl [Hn]; · unfold numPts; rw [whole_num]; iexact Hn
      isplitl [Hd]; · unfold denPts; rw [whole_den]; iexact Hd
      iexact Hns
    isplitl [H4]; · iexact H4
    iexact H5
  iintro %W' HO Ha H4 H5 Hl
  unfold bodyPost Φ₁ bufs Dat.owesAt Pipeline.owesWithin acc
  rw [show (dats m 0 c).owed t0_0.succ = 0 from rfl]
  icases Ha with ⟨Hn, Hd, Hns⟩
  isplitl [Hl Hn Hd Hns]
  · isplitl [Hl]; · iexact Hl
    isplitl [Hn]; · iexists _; iexact Hn
    isplitl [Hd]; · iexists _; iexact Hd
    iexact Hns
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

set_option maxRecDepth 20000 in
/-- The obligation of the one grid point. -/
theorem body_obligation (c : Dev nD) : BodyObligation (dats (F := F) m 0 c) (defs₀ (F := F)) 𝒱₀ () Set.univ := fun t => by
  rw [fin_N0 t]
  rw [bigSep_W, bigSep_W]
  simp only [owns_whole_eq]
  exact sound_body m c

end Cert.KernelIdeal.AllReduce

end
-- ==== Proof.KernelIdeal.Launch.lean ====
/-
# The launch

All thirty-two devices start with their semaphores at zero, their buffers, and the credit of what the others will pay
them. The duty tokens of a device's cells go to the devices that pay them, the two landing buffers are cut into the
slots of the five stages, and every device runs its body.
-/
module

public import proofs.«01_k».proof.Proof.KernelIdeal.Run
public import Idealize.ShloMosaic.Lib.Ring
public import Idealize.ShloMosaic.Lib.SparseCore.Scatter
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

local notation "𝕄" => MT nD τ sig Unit (Elt F) ℕ UU ℕ

/-! ## Rows of five -/

theorem five_mono {Φ Ψ : Fin 5 → sProp 𝕄} (h : ∀ s, Φ s ⊢ Ψ s) : five Φ ⊢ five Ψ := by
  rw [← bigSep_five, ← bigSep_five]; exact bigSep_mono fun s _ => h s
theorem five_sep (Φ Ψ : Fin 5 → sProp 𝕄) : (five fun s => iprop(Φ s ∗ Ψ s)) = iprop(five Φ ∗ five Ψ) := by
  rw [← bigSep_five, ← bigSep_five, ← bigSep_five]; exact bigSep_sep' Finset.univ Φ Ψ

theorem sep_reassoc (A B C : sProp 𝕄) : iprop((A ∗ B) ∗ C) = iprop(A ∗ B ∗ C) := equiv_iff.mp ⟨BI.sep_assoc, BI.sep_assoc'⟩

/-- A device's cells, stage by stage. -/
theorem bigSep_CK (Φ : CK → sProp 𝕄) :
    bigSep Finset.univ Φ = iprop(Φ .bar ∗ Φ .exit ∗ five fun s => iprop(Φ (.ns s) ∗ Φ (.nr s) ∗ Φ (.ds s) ∗ Φ (.dr s))) := by
  rw [bigSep_univ_eq_bigSepL ckList (by decide) (by decide) Φ]
  simp only [five, sep_reassoc]
  rfl

/-! ## The landing slots -/

section Slots
variable (c : Dev nD)

/-- The part of a landing buffer that stage `s` lands in. -/
abbrev nI (s : Fin 5) : Finset (Idx (nrM.view.loc (c : Thread nD τ))) := (nslot s.1 s.2).view.set
abbrev dI (s : Fin 5) : Finset (Idx (drM.view.loc (c : Thread nD τ))) := (dslot s.1 s.2).view.set

theorem mem_nI (s : Fin 5) (i : S5x2x4x64x256.Idx) : i ∈ (nslot s.1 s.2).view.set ↔ (i 0).val = s.1 := by
  rw [nslot_set]
  refine (View.mem_setOn (v := nrM.view) (x := i)).trans ?_
  rw [Rect.mem_set_unit]
  refine ⟨fun h => ?_, fun h a => ?_⟩
  · have h0 := h 0
    have e1 : s.1 ≤ (i 0).val := h0.1
    have e2 : (i 0).val < s.1 + 1 := h0.2
    omega
  · match a with
    | 0 => exact ⟨le_of_eq h.symm, by show (i 0).val < s.1 + 1; omega⟩
    | 1 => exact ⟨Nat.zero_le _, by have := (i 1).isLt; simpa using this⟩
    | 2 => exact ⟨Nat.zero_le _, by have := (i 2).isLt; simpa using this⟩
    | 3 => exact ⟨Nat.zero_le _, by have := (i 3).isLt; simpa using this⟩
    | 4 => exact ⟨Nat.zero_le _, by have := (i 4).isLt; simpa using this⟩

theorem mem_dI (s : Fin 5) (i : S5x8x256.Idx) : i ∈ (dslot s.1 s.2).view.set ↔ (i 0).val = s.1 := by
  rw [dslot_set]
  refine (View.mem_setOn (v := drM.view) (x := i)).trans ?_
  rw [Rect.mem_set_unit]
  refine ⟨fun h => ?_, fun h a => ?_⟩
  · have h0 := h 0
    have e1 : s.1 ≤ (i 0).val := h0.1
    have e2 : (i 0).val < s.1 + 1 := h0.2
    omega
  · match a with
    | 0 => exact ⟨le_of_eq h.symm, by show (i 0).val < s.1 + 1; omega⟩
    | 1 => exact ⟨Nat.zero_le _, by have := (i 1).isLt; simpa using this⟩
    | 2 => exact ⟨Nat.zero_le _, by have := (i 2).isLt; simpa using this⟩

theorem nI_disj (s s' : Fin 5) (h : s ≠ s') : Disjoint (nI c s) (nI c s') :=
  Finset.disjoint_left.mpr fun i hi hi' => h (Fin.ext (((mem_nI s i).mp hi).symm.trans ((mem_nI s' i).mp hi')))
theorem dI_disj (s s' : Fin 5) (h : s ≠ s') : Disjoint (dI c s) (dI c s') :=
  Finset.disjoint_left.mpr fun i hi hi' => h (Fin.ext (((mem_dI s i).mp hi).symm.trans ((mem_dI s' i).mp hi')))
theorem nI_cover : Finset.univ.biUnion (nI c) = Finset.univ :=
  Finset.eq_univ_of_forall fun i => Finset.mem_biUnion.mpr ⟨⟨(i 0).val, (i 0).isLt⟩, Finset.mem_univ _, (mem_nI _ i).mpr rfl⟩
theorem dI_cover : Finset.univ.biUnion (dI c) = Finset.univ :=
  Finset.eq_univ_of_forall fun i => Finset.mem_biUnion.mpr ⟨⟨(i 0).val, (i 0).isLt⟩, Finset.mem_univ _, (mem_dI _ i).mpr rfl⟩

/-- A slot at some contents. -/
abbrev nCut (s : Fin 5) : sProp 𝕄 := iprop(∃ f : Buf (Elt F) (nrM.view.loc (c : Thread nD τ)), nrM.view.loc (c : Thread nD τ) ↦[nI c s]{fullShare} f)
abbrev dCut (s : Fin 5) : sProp 𝕄 := iprop(∃ f : Buf (Elt F) (drM.view.loc (c : Thread nD τ)), drM.view.loc (c : Thread nD τ) ↦[dI c s]{fullShare} f)

theorem slots_intro (s : Fin 5) : iprop(nCut (F := F) c s ∗ dCut c s) ⊢ slots s.1 s.2 c := by
  unfold slots nOwn dOwn owns
  iintro ⟨⟨%f, H⟩, ⟨%g, K⟩⟩
  isplitl [H]
  · iexists _; iexists f; isplitr; · (ipureintro; rfl)
    iexact H
  · iexists _; iexists g; isplitr; · (ipureintro; rfl)
    iexact K

theorem slots_elim (s : Fin 5) : slots s.1 s.2 c ⊢ iprop(nCut (F := F) c s ∗ dCut c s) := by
  unfold slots nOwn dOwn owns
  iintro ⟨⟨%X, %f, %hf, H⟩, ⟨%Y, %g, %hg, K⟩⟩
  isplitl [H]
  · iexists f; iexact H
  · iexists g; iexact K

theorem nCut_intro (s : Fin 5) (f : Buf (Elt F) (nrM.view.loc (c : Thread nD τ))) :
    (nrM.view.loc (c : Thread nD τ) ↦[nI c s]{fullShare} f : sProp 𝕄) ⊢ nCut c s := by
  iintro H; iexists f; iexact H
theorem dCut_intro (s : Fin 5) (f : Buf (Elt F) (drM.view.loc (c : Thread nD τ))) :
    (drM.view.loc (c : Thread nD τ) ↦[dI c s]{fullShare} f : sProp 𝕄) ⊢ dCut c s := by
  iintro H; iexists f; iexact H

theorem slots_split :
    iprop((∃ f : Buf (Elt F) ((c : Thread nD τ).loc cc0_scratch3), ((c : Thread nD τ).loc cc0_scratch3) ↦{fullShare} f)
        ∗ ∃ f : Buf (Elt F) ((c : Thread nD τ).loc cc0_scratch4), ((c : Thread nD τ).loc cc0_scratch4) ↦{fullShare} f)
      ⊢ (five fun s => slots s.1 s.2 c : sProp 𝕄) := by
  iintro ⟨⟨%f, H⟩, ⟨%g, K⟩⟩
  ihave H := (Entails.of_eq (Ring.pointsTo_blocks (nI c) (nI_disj c) (nI_cover c) f)) $$ H
  ihave K := (Entails.of_eq (Ring.pointsTo_blocks (dI c) (dI_disj c) (dI_cover c) g)) $$ K
  iapply (show iprop(five (nCut c) ∗ five (dCut c)) ⊢ (five fun s => slots s.1 s.2 c : sProp 𝕄) from by
    rw [← five_sep]; exact five_mono (slots_intro c))
  ihave H := (Entails.of_eq (bigSep_five _)) $$ H
  ihave K := (Entails.of_eq (bigSep_five _)) $$ K
  isplitl [H]
  · iapply (show (five fun s => (nrM.view.loc (c : Thread nD τ) ↦[nI c s]{fullShare} f : sProp 𝕄)) ⊢ five (nCut c) from five_mono fun s => nCut_intro c s f)
    iexact H
  · iapply (show (five fun s => (drM.view.loc (c : Thread nD τ) ↦[dI c s]{fullShare} g : sProp 𝕄)) ⊢ five (dCut c) from five_mono fun s => dCut_intro c s g)
    iexact K

theorem slots_join :
    (five fun s => slots s.1 s.2 c : sProp 𝕄)
      ⊢ iprop((∃ f : Buf (Elt F) ((c : Thread nD τ).loc cc0_scratch3), ((c : Thread nD τ).loc cc0_scratch3) ↦{fullShare} f)
        ∗ ∃ f : Buf (Elt F) ((c : Thread nD τ).loc cc0_scratch4), ((c : Thread nD τ).loc cc0_scratch4) ↦{fullShare} f) := by
  refine BI.Entails.trans (five_mono (slots_elim c)) ?_
  rw [five_sep, ← bigSep_five, ← bigSep_five]
  have f₀ : Buf (Elt F) (nrM.view.loc (c : Thread nD τ)) := fun _ => default
  have g₀ : Buf (Elt F) (drM.view.loc (c : Thread nD τ)) := fun _ => default
  exact BI.sep_mono (Ring.pointsTo_blocks_join_exists (nI c) (nI_disj c) (nI_cover c) f₀) (Ring.pointsTo_blocks_join_exists (dI c) (dI_disj c) (dI_cover c) g₀)

end Slots

/-! ## Cells and tokens -/

/-- The kernel's own semaphores: all its cells but the barrier. -/
def osem (i : Fin 21) : SemLoc sig := csem (ckList.tail.get i)

theorem ownSemFacts : Pipeline.OwnSemFacts cfg0.spec osem := by decide +kernel

theorem cells_injective : Function.Injective (fun x : Dev nD × CK => cell x.1 x.2) :=
  fun x y h => Prod.ext (cell_eq_iff.mp h).1 (cell_eq_iff.mp h).2
def ourCells : Finset (GSem nD τ sig) := Finset.univ.map ⟨_, cells_injective⟩

/-- The duties of a device's cells: five at the barrier, five at the exit, one at each transfer's cell. -/
abbrev TK : Type := Fin 6 × Fin 5
def tkCell : TK → CK × Fin 5
  | (0, s) => (.bar, s)
  | (1, s) => (.exit, s)
  | (2, s) => (.ns s, 0)
  | (3, s) => (.nr s, 0)
  | (4, s) => (.ds s, 0)
  | (5, s) => (.dr s, 0)
theorem tkCell_injective : Function.Injective tkCell := by decide +kernel

abbrev tokOf (x : Dev nD × TK) : GSem nD τ sig × ℕ × Fin 5 := (cell x.1 (tkCell x.2).1, 0, (tkCell x.2).2)
theorem tokOf_injective : Function.Injective tokOf := fun x y h => by
  have h1 := cell_eq_iff.mp (congrArg Prod.fst h)
  exact Prod.ext h1.1 (tkCell_injective (Prod.ext h1.2 (congrArg (fun z => z.2.2) h)))
def ourToks : Finset (GSem nD τ sig × ℕ × Fin 5) := Finset.univ.map ⟨tokOf, tokOf_injective⟩

def u₀ : UU :=
  (initOf (Pipeline.cells cfgs cellOf_inj) (Pipeline.launchToks cfgs cellOf_inj), initOf ourCells ourToks)

/-- The tokens of one row of a device's duties; -/
abbrev row (i : Fin 6) (c : Dev nD) : sProp 𝕄 := five fun s => dutyTok ER (cell c (tkCell (i, s)).1) 0 (tkCell (i, s)).2
/-- and of the duties of that row the device pays into its partners' cells. -/
abbrev rowP (i : Fin 6) (c : Dev nD) : sProp 𝕄 := five fun s => dutyTok ER (cell (p s.1 c) (tkCell (i, s)).1) 0 (tkCell (i, s)).2

def toks (c : Dev nD) : sProp 𝕄 := iprop(row 0 c ∗ row 1 c ∗ row 2 c ∗ row 3 c ∗ row 4 c ∗ row 5 c)
def payToks (c : Dev nD) : sProp 𝕄 := iprop(rowP 0 c ∗ rowP 1 c ∗ row 2 c ∗ rowP 3 c ∗ row 4 c ∗ rowP 5 c)

theorem bigSep_TK (Φ : TK → sProp 𝕄) : bigSep Finset.univ Φ
    = iprop((five fun s => Φ (0, s)) ∗ (five fun s => Φ (1, s)) ∗ (five fun s => Φ (2, s)) ∗ (five fun s => Φ (3, s)) ∗ (five fun s => Φ (4, s)) ∗ five fun s => Φ (5, s)) := by
  rw [bigSep_univ_prod, bigSep_univ_eq_bigSepL [0, 1, 2, 3, 4, 5] (by decide) (by decide)]
  simp only [← bigSep_five]
  rfl

/-- Every duty of stage `s` goes to the partner of that stage. -/
theorem row_around (i : Fin 6) : (bigSep Finset.univ fun c : Dev nD => (row i c : sProp 𝕄)) = bigSep Finset.univ fun c : Dev nD => rowP i c := by
  have e : ∀ Ψ : Fin 5 → Dev nD → sProp 𝕄, (bigSep Finset.univ fun c : Dev nD => five fun s => Ψ s c) = five fun s => bigSep Finset.univ (Ψ s) := fun Ψ => by
    unfold five; rw [bigSep_sep', bigSep_sep', bigSep_sep', bigSep_sep']
  have f : ∀ s : Fin 5, (bigSep Finset.univ fun c : Dev nD => (dutyTok ER (cell c (tkCell (i, s)).1) 0 (tkCell (i, s)).2 : sProp 𝕄))
      = bigSep Finset.univ fun c : Dev nD => dutyTok ER (cell (p s.1 c) (tkCell (i, s)).1) 0 (tkCell (i, s)).2 := fun s =>
    bigSep_univ_equiv (pEquiv s) (fun c : Dev nD => (dutyTok ER (cell c (tkCell (i, s)).1) 0 (tkCell (i, s)).2 : sProp 𝕄))
  rw [e, e]; simp only [f]

theorem bigSep_six (A₀ A₁ A₂ A₃ A₄ A₅ : Dev nD → sProp 𝕄) :
    (bigSep Finset.univ fun c => iprop(A₀ c ∗ A₁ c ∗ A₂ c ∗ A₃ c ∗ A₄ c ∗ A₅ c))
      = iprop(bigSep Finset.univ A₀ ∗ bigSep Finset.univ A₁ ∗ bigSep Finset.univ A₂ ∗ bigSep Finset.univ A₃ ∗ bigSep Finset.univ A₄ ∗ bigSep Finset.univ A₅) := by
  rw [bigSep_sep', bigSep_sep', bigSep_sep', bigSep_sep', bigSep_sep']

theorem toks_around : (bigSep Finset.univ fun c : Dev nD => (toks c : sProp 𝕄)) = bigSep Finset.univ fun c : Dev nD => payToks c := by
  refine (bigSep_six (row 0) (row 1) (row 2) (row 3) (row 4) (row 5)).trans ?_
  rw [row_around 0, row_around 1, row_around 3, row_around 5]
  exact (bigSep_six (rowP 0) (rowP 1) (row 2) (rowP 3) (row 4) (rowP 5)).symm

section Alloc
variable (m : (ℓ : Loc nD τ sig) → Buf (Elt F) ℓ) (ρ : Dev nD → PrngReg)

/-- What the launch deals device `c`, -/
def G (c : Dev nD) : sProp 𝕄 :=
  iprop((bigSep Finset.univ fun k : CK => roundState ER (RdA (n0 m) (d0 m)) (cell c k) 0)
    ∗ (bigSep Finset.univ fun k : CK => iprop(atPos ER (cell c k) 0 ∅ 0 ∗ reached ER (cell c k) 0)) ∗ toks c)

/-- its positions and the tokens of the duties it pays, -/
def mine (c : Dev nD) : sProp 𝕄 := iprop((bigSep Finset.univ fun k : CK => atPos ER (cell c k) 0 ∅ 0) ∗ payToks c)

/-- and what it starts with. -/
def G' (c : Dev nD) : sProp 𝕄 := iprop((∃ κ, records (n0 m) (d0 m) κ) ∗ mine c)

theorem fund : BI.own (ER (initOf ourCells ourToks)) ⊢ (|==> bigSep Finset.univ (G m) : sProp 𝕄) := by
  have hX (Φ : GSem nD τ sig → sProp 𝕄) : bigSep ourCells Φ = bigSep Finset.univ fun c : Dev nD => bigSep Finset.univ fun k : CK => Φ (cell c k) := by
    unfold ourCells; rw [SparseCore.bigSep_map, bigSep_univ_prod]; rfl
  have hT : bigSep ourToks (fun x => (dutyTok ER x.1 x.2.1 x.2.2 : sProp 𝕄)) = bigSep Finset.univ fun c : Dev nD => toks c := by
    unfold ourToks; rw [SparseCore.bigSep_map, bigSep_univ_prod]
    exact bigSep_congr fun c _ => by unfold toks; rw [bigSep_TK]; rfl
  iintro HX
  imod (Rounds.fund ER (RdA (n0 m) (d0 m)) ourCells ourToks) $$ HX with ⟨Hst, Hr, Hat, Htok⟩
  imodintro
  ihave Hst' := (Entails.of_eq (hX fun g => roundState ER (RdA (n0 m) (d0 m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSepL ckList.tail fun k => semVal (cell c k) 0 := by
  rw [Pipeline.ownSems0_eq_of_list c osem (List.finRange 21) (by decide) (by decide)]; rfl
theorem unscopedSems0_eq (c : Dev nD) : (unscopedSems0 c : sProp 𝕄) = semVal (cell c .bar) 0 := by
  unfold unscopedSems0; rw [bigSep_eq_bigSepL_of_eq [SemLoc.reg barS] (by decide) (by decide)]; rfl

/-- The barrier's semaphore and the kernel's own are the device's cells. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : CK => semVal (cell c k) 0 : sProp 𝕄) := by
  rw [ownSems0_eq, unscopedSems0_eq, bigSep_univ_eq_bigSepL ckList (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (RdA (n0 m) (d0 m)) κ (cell c k)))
          ∗ (bigSep Finset.univ fun k => iprop(atPos ER (cell c k) 0 ∅ 0 ∗ reached ER (cell c k) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : CK => semVal (cell c k) 0) ∗ bigSep Finset.univ fun k : CK => roundState ER (RdA (n0 m) (d0 m)) (cell c k) 0)
      ⊢ (|={Set.univ}=> bigSep Finset.univ fun k => iprop(∃ κ : ℕ, cellInv ER (RdA (n0 m) (d0 m)) κ (cell c k)) : sProp 𝕄) from by
        rw [← bigSep_sep']
        exact (bigSep_mono fun k _ => (Rounds.body_intro ER (RdA (n0 m) (d0 m)) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem bigSep_keep {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (RdA (n0 m) (d0 m)) κ (cell c k)))
          ∗ (bigSep Finset.univ fun k => iprop(atPos ER (cell c k) 0 ∅ 0 ∗ reached ER (cell c k) 0)) ∗ toks c) : sProp 𝕄)
      ⊢ bigSep Finset.univ (G' m) := by
  rw [bigSep_sep', bigSep_sep', ← bigSep_univ_prod (fun x : Dev nD × CK => iprop(∃ κ : ℕ, cellInv ER (RdA (n0 m) (d0 m)) κ (cell x.1 x.2))),
    bigSep_congr (s := Finset.univ) (fun (c : Dev nD) _ => bigSep_sep' Finset.univ (fun k : CK => (atPos ER (cell c k) 0 ∅ 0 : sProp 𝕄)) (fun k => reached ER (cell c k) 0)),
    bigSep_sep', ← bigSep_univ_prod (fun x : Dev nD × CK => (reached ER (cell x.1 x.2) 0 : sProp 𝕄)), toks_around]
  iintro ⟨HI, ⟨Hat, #HR⟩, Htk⟩
  ihave HK := (BI.bigSep_exists_pi Finset.univ (fun (x : Dev nD × CK) (κ : ℕ) => (cellInv ER (RdA (n0 m) (d0 m)) κ (cell x.1 x.2) : sProp 𝕄))) $$ HI
  icases HK with ⟨%K, #HI⟩
  iapply (bigSep_keep (R := records (n0 m) (d0 m) K) (Φ := mine) fun c _ => by
    unfold G'
    iintro ⟨#HR, HM⟩
    isplitr
    · iexists K; iexact HR
    · iexact HM)
  isplitr
  · unfold records; isplitl; · iexact HI
    iexact HR
  · iapply (Entails.of_eq (bigSep_sep' Finset.univ (fun c : Dev nD => bigSep Finset.univ fun k : CK => (atPos ER (cell c k) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

/-- The credit a device waits with. -/
def credsOf (c : Dev nD) : sProp 𝕄 :=
  iprop(cred (tallyAt (cell c .bar) () 5) ∗ cred (tallyAt (cell c .exit) () 5)
    ∗ five fun s => iprop(cred (tallyAt (cell c (.nr s)) () NN) ∗ cred (tallyAt (cell c (.dr s)) () ND)))

theorem creds (c : Dev nD) : (Pipeline.launchCred O₀ c : sProp 𝕄) ⊢ credsOf c := by
  unfold Pipeline.launchCred
  refine BI.Entails.trans (BI.bigSep_subset (Finset.subset_univ (Finset.univ.map ⟨csem, csem_injective⟩))) ?_
  rw [SparseCore.bigSep_map, bigSep_CK]
  unfold credsOf
  refine BI.sep_mono ?_ (BI.sep_mono ?_ (five_mono fun s => ?_))
  · exact Entails.of_eq (congrArg cred (launch_cell c .bar 5 (by decide)))
  · exact Entails.of_eq (congrArg cred (launch_cell c .exit 5 (by decide)))
  · have e1 := launch_cell c (.nr s) NN (by fin_cases s <;> rfl)
    have e2 := launch_cell c (.dr s) ND (by fin_cases s <;> rfl)
    iintro ⟨-, H1, -, H2⟩
    isplitl [H1]
    · rw [← e1]; iexact H1
    · rw [← e2]; iexact H2

theorem lin_intro (c : Dev nD) : iprop(credsOf c ∗ mine c) ⊢ (lin c : sProp 𝕄) := by
  unfold credsOf mine payToks lin shakeRes
  rw [bigSep_CK]
  iintro ⟨⟨CB, CE, CS⟩, ⟨AB, AE, AS⟩, T0, T1, T2, T3, T4, T5⟩
  isplitl [CB AB T0]
  · isplitl [AB]; · iexact AB
    isplitl [CB]; · iexact CB
    iexact T0
  isplitl [CE AE T1]
  · isplitl [AE]; · iexact AE
    isplitl [CE]; · iexact CE
    iexact T1
  iapply (show iprop((five fun s => iprop(cred (tallyAt (cell c (.nr s)) () NN) ∗ cred (tallyAt (cell c (.dr s)) () ND)))
      ∗ (five fun s => iprop(atPos ER (cell c (.ns s)) 0 ∅ 0 ∗ atPos ER (cell c (.nr s)) 0 ∅ 0 ∗ atPos ER (cell c (.ds s)) 0 ∅ 0 ∗ atPos ER (cell c (.dr s)) 0 ∅ 0))
      ∗ row 2 c ∗ rowP 3 c ∗ row 4 c ∗ rowP 5 c) ⊢ (five (stageRes c) : sProp 𝕄) from by
    simp only [← five_sep]
    refine five_mono fun s => ?_
    unfold stageRes
    iintro ⟨⟨C1, C2⟩, ⟨A1, A2, A3, A4⟩, T1, T2, T3, T4⟩
    isplitl [T1]; · iexact T1
    isplitl [T2]; · iexact T2
    isplitl [T3]; · iexact T3
    isplitl [T4]; · iexact T4
    isplitl [A1]; · iexact A1
    isplitl [A2]; · iexact A2
    isplitl [A3]; · iexact A3
    isplitl [A4]; · iexact A4
    isplitl [C1]; · iexact C1
    iexact C2)
  isplitl [CS]; · iexact CS
  isplitl [AS]; · iexact AS
  isplitl [T2]; · iexact T2
  isplitl [T3]; · iexact T3
  isplitl [T4]; · iexact T4
  iexact T5

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G'
  iintro ⟨-, Hlev, Hcr, -, HR, HM⟩
  ihave Hc := (creds (F := F) c) $$ Hcr
  ihave Hl := (lin_intro (F := F) c) $$ [Hc HM]
  · isplitl [Hc] <;> iassumption
  imodintro
  unfold start
  isplitl
  · isplitl [HR]; · iexact HR
    isplitl [Hl]; · iexact Hl
    iexact Hlev
  · iempintro

theorem bufs_intro (c : Dev nD) :
    iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)) = (bufs c : sProp 𝕄) := by
  unfold bufs numPts denPts nsPts
  rw [whole_num, whole_den, show nsM.view.set = Finset.univ from View.set_whole _]
  rfl

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, H0, H1, H2, H3, H4⟩
  isplitl [Hs]; · iexact Hs
  isplitl [H3 H4]
  · iapply (slots_split c)
    isplitl [H3]; · iexact H3
    iexact H4
  iapply (Entails.of_eq (bufs_intro c))
  isplitl [H0]; · iexact H0
  isplitl [H1]; · iexact H1
  iexact H2

theorem left_elim (c : Dev nD) : (left c : sProp 𝕄) ⊢ iprop((five fun s => slots s.1 s.2 c) ∗ bigSep Finset.univ fun k : CK => semVal (cell c k) 0) := by
  unfold left
  rw [bigSep_CK]
  iintro ⟨HB, HE, HS⟩
  ihave HS := (Entails.of_eq (show five (stageOut c) = _ from five_sep (fun s => slots s.1 s.2 c)
    (fun s => iprop(semVal (cell c (.ns s)) 0 ∗ semVal (cell c (.nr s)) 0 ∗ semVal (cell c (.ds s)) 0 ∗ semVal (cell c (.dr s)) 0)))) $$ HS
  icases HS with ⟨HS, HV⟩
  isplitl [HS]; · iexact HS
  isplitl [HB]; · iexact HB
  isplitl [HE]; · iexact HE
  iexact HV

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁
  iintro ⟨Hl, Hb⟩
  ihave Hl := (left_elim c) $$ Hl
  icases Hl with ⟨Hs, Hv⟩
  ihave Hv := (Entails.of_eq (sems0_eq c).symm) $$ Hv
  icases Hv with ⟨Hu, Ho⟩
  ihave Hb := (Entails.of_eq (bufs_intro c).symm) $$ Hb
  icases Hb with ⟨H0, H1, H2⟩
  ihave Hs := (slots_join c) $$ Hs
  icases Hs with ⟨H3, H4⟩
  isplitl [Hu]; · iexact Hu
  isplitl [Ho]; · iexact Ho
  isplitl [H0]; · iexact H0
  isplitl [H1]; · iexact H1
  isplitl [H2]; · iexact H2
  isplitl [H3]; · iexact H3
  iexact H4

theorem kind_stage (w : Fin 6) (s : Fin (cfg0.win w).nbuf) : (kind (.dma ((cfg0.win w).sem s))).elim 0 lvK = 0 := by
  rw [kind_none _ (by revert s; revert w; decide +kernel)]; rfl

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_of c _ 0 (kind_stage w s) payT (by decide)
    · exact mayWait_of c _ 0 (kind_stage w s) [] (by decide)

/-! ## The run -/

theorem share_eq (c : Dev nD) (w : Fin cfg0.W) : (dats m 0 c).share w = fullShare := by unfold Dat.share; split <;> rfl

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

/-- The state a run starts from. -/
def s₀ : MemSt nD τ sig (Elt F) := ⟨m, fun _ => 0, ρ⟩

set_option maxRecDepth 100000 in
/-- Every run of the program ends, with each device's arrays at the computed contents and every semaphore at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Alloc

end Cert.KernelIdeal.AllReduce

end
-- ==== Proof.KernelIdeal.Ends.lean ====
/-
# How a run ends

The five argument arrays are as they were, every semaphore is at zero, and each device's result array holds `outW`: the
projected, normalised sum of what all the devices worked out from their own keys and values.
-/
module

public import proofs.«01_k».proof.Proof.KernelIdeal.Launch
public import Idealize.ShloMosaic.Lib.Pipeline.ValueKit

@[expose] public section

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window)

variable {F : FTy → Type} [FloatOps F]

variable (m : (ℓ : Loc nD τ sig) → Buf (Elt F) ℓ) (ρ : Dev nD → PrngReg)

/-! ## The one block of a window is its array -/

theorem xW_eq (c : Dev nD) : xW m c = m ((c : Thread nD τ).loc main_arg0) :=
  Memref.read_access_unit_zero (Elt F) main_arg0 (funext fun a => by fin_cases a <;> decide) (fun a => by fin_cases a <;> decide) _

theorem wqW_eq (c : Dev nD) : wqW m c = m ((c : Thread nD τ).loc main_arg1) :=
  Memref.read_access_unit_zero (Elt F) main_arg1 (funext fun a => by fin_cases a <;> decide) (fun a => by fin_cases a <;> decide) _

theorem kW_eq (c : Dev nD) : kW m c = m ((c : Thread nD τ).loc main_arg2) :=
  Memref.read_access_unit_zero (Elt F) main_arg2 (funext fun a => by fin_cases a <;> decide) (fun a => by fin_cases a <;> decide) _

theorem vW_eq (c : Dev nD) : vW m c = m ((c : Thread nD τ).loc main_arg3) :=
  Memref.read_access_unit_zero (Elt F) main_arg3 (funext fun a => by fin_cases a <;> decide) (fun a => by fin_cases a <;> decide) _

theorem woW_eq (c : Dev nD) : woW m c = m ((c : Thread nD τ).loc main_arg4) :=
  Memref.read_access_unit_zero (Elt F) main_arg4 (funext fun a => by fin_cases a <;> decide) (fun a => by fin_cases a <;> decide) _

/-- The result array, once its only block has been written back. -/
theorem final_out (c : Dev nD) : finalA m c 5 = outW m c := by
  refine (dats m 0 c).arrAt_eq_of_after_last 5 t0_0 (by decide +kernel) _ fun j => ?_
  rfl

/-- A run: the result of every device is `outW`, its arguments are unchanged and all semaphores are back at zero. -/
theorem ends : θ_run defs (onTc (τ := τ) (main (F := F))) ⟨m, fun _ => 0, ρ⟩ (fun r =>
    (∀ c : Dev nD, r.2.mem ((c : Thread nD τ).loc main_v1) = outW m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) :=
  (θ_run defs _ _).mono (fun _ h =>
    ⟨fun c => ⟨(h.1 c (5 : Fin 6)).trans (final_out m c),
      (h.1 c (0 : Fin 6)).trans ((dats m 0 c).arrAt_in 0 rfl _),
      (h.1 c (1 : Fin 6)).trans ((dats m 0 c).arrAt_in 1 rfl _),
      (h.1 c (2 : Fin 6)).trans ((dats m 0 c).arrAt_in 2 rfl _),
      (h.1 c (3 : Fin 6)).trans ((dats m 0 c).arrAt_in 3 rfl _),
      (h.1 c (4 : Fin 6)).trans ((dats m 0 c).arrAt_in 4 rfl _)⟩, h.2⟩)
    (run_main m ρ)

end Cert.KernelIdeal.AllReduce

end
-- ==== Proof.Math.lean ====
/-
# The equation, free of any program

A masked softmax average, written with the maximum subtracted and the weights divided by their sum, is the quotient of two
sums of exponentials over the keys that the mask keeps. The scores are real, the values are any extended reals.
-/
module

public import Idealize.ShloMosaic.PureOps.Ideal

@[expose] public section

noncomputable section

namespace Cert.Attention

open Idealize.ShloMosaic

/-! ## Sums of extended reals -/

/-- A nonnegative real factor goes into a sum. -/
theorem sum_mul_coe {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A sum of reals is real. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- An extended real that is a real. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} [Fintype ι] {f : ι → EReal} (h : ∀ i, IsReal (f i)) : IsReal (∑ i, f i) := by
  choose g hg using h
  exact ⟨∑ i, g i, by rw [← coe_sum]; exact Finset.sum_congr rfl fun i _ => hg i⟩

/-- What lies strictly between the infinities is real. -/
theorem IsReal.of_ne {x : EReal} (h₁ : x ≠ ⊥) (h₂ : x ≠ ⊤) : IsReal x := ⟨x.toReal, (EReal.coe_toReal h₂ h₁).symm⟩

/-! ## The softmax -/

section Softmax

variable {ι : Type*} [Fintype ι] (P : ι → Prop) [DecidablePred P]

/-- A score, or minus infinity where the mask drops it. -/
def masked (f : ι → EReal) (j : ι) : EReal := if P j then f j else ⊥

/-- The greatest masked score. -/
def top (f : ι → EReal) : EReal := Finset.univ.fold max ⊥ (masked P f)

/-- The weight of a key before it is normalised. -/
def weight (f : ι → EReal) (j : ι) : EReal := Ideal.exp (masked P f j - top P f)

theorem top_real {f : ι → EReal} (hf : ∀ j, IsReal (f j)) (hP : ∃ j, P j) : IsReal (top P f) := by
  refine IsReal.of_ne (ne_of_gt ?_) (ne_of_lt ?_)
  · obtain ⟨j, hj⟩ := hP
    refine (Finset.lt_fold_max _).2 (.inr ⟨j, Finset.mem_univ j, ?_⟩)
    obtain ⟨r, hr⟩ := hf j
    rw [masked, if_pos hj, hr]; exact EReal.bot_lt_coe r
  · refine (Finset.fold_max_lt _).2 ⟨bot_lt_top, fun j _ => ?_⟩
    obtain ⟨r, hr⟩ := hf j
    unfold masked
    split
    · rw [hr]; exact EReal.coe_lt_top r
    · exact bot_lt_top

/-- THE SOFTMAX AVERAGE of any values is a quotient of two sums over the keys kept. -/
theorem softmax {f : ι → EReal} (hf : ∀ j, IsReal (f j)) (hP : ∃ j, P j) (v : ι → EReal) :
    ∑ j, v j * Ideal.div (weight P f j) (∑ k, weight P f k)
      = Ideal.div (∑ j, if P j then v j * Ideal.exp (f j) else 0) (∑ j, if P j then Ideal.exp (f j) else 0) := by
  obtain ⟨M, hM⟩ := top_real P hf hP
  choose g hg using hf
  have hw : ∀ j, weight P f j = (((if P j then Real.exp (g j) else 0) * Real.exp (-M) : ℝ) : EReal) := by
    intro j
    unfold weight masked
    rw [hM]
    by_cases h : P j
    · rw [if_pos h, if_pos h, hg j, ← EReal.coe_sub, Ideal.exp_coe, sub_eq_add_neg, Real.exp_add]
    · rw [if_neg h, if_neg h, EReal.bot_sub, Ideal.exp_bot]; simp
  have he : ∀ j, (if P j then Ideal.exp (f j) else 0) = ((if P j then Real.exp (g j) else 0 : ℝ) : EReal) := by
    intro j; by_cases h : P j
    · rw [if_pos h, if_pos h, hg j, Ideal.exp_coe]
    · rw [if_neg h, if_neg h]; rfl
  let D : ℝ := ∑ j, if P j then Real.exp (g j) else 0
  have hD : 0 < D := by
    obtain ⟨j, hj⟩ := hP
    refine Finset.sum_pos' (fun i _ => ?_) ⟨j, Finset.mem_univ j, ?_⟩
    · split
      · exact (Real.exp_pos _).le
      · exact le_refl 0
    · rw [if_pos hj]; exact Real.exp_pos _
  have hS : ∑ k, weight P f k = ((D * Real.exp (-M) : ℝ) : EReal) := by
    rw [Finset.sum_congr rfl fun k _ => hw k, coe_sum, ← Finset.sum_mul]
  have hE : (∑ j, if P j then Ideal.exp (f j) else 0) = (D : EReal) := by
    rw [Finset.sum_congr rfl fun k _ => he k, coe_sum]
  have hM' : Real.exp (-M) ≠ 0 := (Real.exp_pos _).ne'
  rw [hS, hE, Ideal.div_coe hD.ne', sum_mul_coe _ _ _ (by positivity)]
  refine Finset.sum_congr rfl fun j _ => ?_
  rw [Ideal.div_coe (mul_ne_zero hD.ne' hM'), hw, ← EReal.coe_mul]
  by_cases h : P j
  · rw [if_pos h, if_pos h, hg j, Ideal.exp_coe, mul_assoc (v j), ← EReal.coe_mul]
    congr 2; field_simp
  · rw [if_neg h, if_neg h]; simp

end Softmax

/-! ## Keys by device -/

/-- Key `64 q + r` of device `c`, among all the keys. -/
def keyAt (c : Fin 32) (q : Fin 4) (r : Fin 64) : Fin 8192 :=
  ⟨256 * c.val + 64 * q.val + r.val, by have := c.isLt; have := q.isLt; have := r.isLt; omega⟩

/-- The keys that query block `q` looks at: block `q` of every device. -/
def keep (q : Fin 4) (j : Fin 8192) : Prop := j.val / 64 % 4 = q.val

instance (q : Fin 4) : DecidablePred (keep q) := fun j => by unfold keep; infer_instance

theorem keep_keyAt (c : Fin 32) (q : Fin 4) (r : Fin 64) : keep q (keyAt c q r) := by
  have := q.isLt; have := r.isLt
  unfold keep keyAt; show (256 * c.val + 64 * q.val + r.val) / 64 % 4 = q.val; omega

/-- A sum over the keys kept goes device by device. -/
theorem sum_keep (q : Fin 4) (g : Fin 8192 → EReal) :
    (∑ j, if keep q j then g j else 0) = ∑ c : Fin 32, ∑ r : Fin 64, g (keyAt c q r) := by
  rw [← Finset.sum_filter, ← Fintype.sum_prod_type' (f := fun c r => g (keyAt c q r))]
  symm
  refine Finset.sum_bij (fun (y : Fin 32 × Fin 64) _ => keyAt y.1 q y.2) ?_ ?_ ?_ ?_
  · intro y _; exact Finset.mem_filter.2 ⟨Finset.mem_univ _, keep_keyAt _ _ _⟩
  · rintro ⟨c, r⟩ _ ⟨c', r'⟩ _ h
    have h' : 256 * c.val + 64 * q.val + r.val = 256 * c'.val + 64 * q.val + r'.val := congrArg Fin.val h
    have := r.isLt; have := r'.isLt
    exact Prod.ext (Fin.ext (by show c.val = c'.val; omega)) (Fin.ext (by show r.val = r'.val; omega))
  · intro j hj
    have hk : j.val / 64 % 4 = q.val := (Finset.mem_filter.1 hj).2
    have := j.isLt
    refine ⟨(⟨j.val / 256, by omega⟩, ⟨j.val % 64, Nat.mod_lt _ (by norm_num)⟩), Finset.mem_univ _, Fin.ext ?_⟩
    show 256 * (j.val / 256) + 64 * q.val + j.val % 64 = j.val
    omega
  · intro _ _; rfl

end Cert.Attention

end
-- ==== Proof.Score.lean ====
/-
# The scores, and the attention read off the whole arrays

What both programs compute, as one formula over whole arrays of extended reals.
-/
module

public import proofs.«01_k».proof.Proof.Math
public import Idealize.ShloMosaic.Lib.Pointwise

@[expose] public section

noncomputable section

namespace Cert.Attention

open Idealize.ShloMosaic

/-- The scale of the scores, an eighth. -/
theorem eighth : Ideal.ofBits .f32 0x3E000000#32 = (((1 : ℝ) / 8 : ℝ) : EReal) := by
  simp [Ideal.ofBits, Ideal.ieee, -EReal.coe_mul]; norm_num

/-- The pattern of minus infinity. -/
theorem bottom : Ideal.ofBits .f32 0xFF800000#32 = ⊥ := by
  simp [Ideal.ofBits, Ideal.ieee]

/-- The pattern of plus infinity. -/
theorem infinite : Ideal.ofBits .f32 0x7F800000#32 = ⊤ := by
  simp [Ideal.ofBits, Ideal.ieee]

/-- Component `d` of head `h` among the 256 columns. -/
def col (h : Fin 4) (d : Fin 64) : Fin 256 := ⟨64 * h.1 + d.1, by omega⟩

abbrev Xs : Shape := ⟨3, ![2, 256, 512]⟩
abbrev Ws : Shape := ⟨2, ![512, 256]⟩

/-- The projected query. -/
def query (x : Xs.Idx → EReal) (w : Ws.Idx → EReal) (b : Fin 2) (i t : Fin 256) : EReal :=
  ∑ m : Fin 512, x (ix3 b i m) * w (ix2 m t)

/-- The scaled score of query `i` in head `h` against one key. -/
def score (x : Xs.Idx → EReal) (w : Ws.Idx → EReal) (b : Fin 2) (h : Fin 4) (i : Fin 256) (key : Fin 64 → EReal) : EReal :=
  (∑ d : Fin 64, query x w b i (col h d) * key d) * (((1 : ℝ) / 8 : ℝ) : EReal)

theorem score_real {x : Xs.Idx → EReal} {w : Ws.Idx → EReal} {key : Fin 64 → EReal} (hx : ∀ y, IsReal (x y))
    (hw : ∀ y, IsReal (w y)) (hk : ∀ d, IsReal (key d)) (b : Fin 2) (h : Fin 4) (i : Fin 256) : IsReal (score x w b h i key) :=
  .mul (.sum fun d => .mul (.sum fun m => .mul (hx _) (hw _)) (hk d)) ⟨_, rfl⟩

/-- A sum over the 256 columns, head by head. -/
theorem sum_col (g : Fin 256 → EReal) : ∑ t : Fin 256, g t = ∑ h : Fin 4, ∑ d : Fin 64, g (col h d) := by
  rw [← Finset.sum_product']
  symm
  refine Finset.sum_bij' (fun hd _ => col hd.1 hd.2)
    (fun t _ => (⟨t.1 / 64, by omega⟩, ⟨t.1 % 64, by omega⟩)) ?_ ?_ ?_ ?_ ?_
  · intros; exact Finset.mem_univ _
  · intros; exact Finset.mem_product.2 ⟨Finset.mem_univ _, Finset.mem_univ _⟩
  · rintro ⟨h, d⟩ -
    exact Prod.ext (Fin.ext (by show (64 * h.1 + d.1) / 64 = h.1; omega)) (Fin.ext (by show (64 * h.1 + d.1) % 64 = d.1; omega))
  · intro t _
    exact Fin.ext (by show 64 * (t.1 / 64) + t.1 % 64 = t.1; omega)
  · intros; rfl

end Cert.Attention
-- ==== Proof.KernelIdeal.Value.lean ====
/-
# The kernel's output over the reals

One device's numerators and denominators, their sums over all the devices, and the output, read at an index.
-/
module

public import proofs.«01_k».proof.Proof.KernelIdeal.Ends
public import proofs.«01_k».proof.Proof.Score

@[expose] public section

noncomputable section

namespace Cert.KernelIdeal.AllReduce

open Cert.KernelIdeal Cert.KernelIdeal.Gen
open Idealize.ShloMosaic
open Cert.Attention

/-- Row `r` of block `q` of a device's 256 rows. -/
def keyRow (q : Fin 4) (r : Fin 64) : Fin 256 := ⟨64 * q.1 + r.1, by omega⟩

/-! ## One device's keys -/

section Blocks
variable (x : Vec Ideal S2x256x512 .f32) (wq : Vec Ideal S512x256 .f32) (k v : Vec Ideal S2x256x4x64 .f32)

theorem x_at (b : Fin 2) (i : Fin 256) (m : Fin 512) :
    View.readAt (Elt Ideal) (View.whole cc0_stg0_0) (Rect.unit (s := S2x256x512) ![b.1, 0, 0] S1x256x512.size (inb_x b)).toLoadRect x (ix3 0 i m)
      = x (ix3 b i m) := by
  show x _ = x _
  congr 1; funext a; apply Fin.ext
  fin_cases a
  · show b.1 + 1 * 0 = b.1; omega
  · show 0 + 1 * i.1 = i.1; omega
  · show 0 + 1 * m.1 = m.1; omega

theorem wq_at (m : Fin 512) (t : Fin 256) :
    View.readAt (Elt Ideal) (View.whole cc0_stg1_0) (Rect.unit (s := S512x256) ![0, 0] S512x256.size inb_S512x256_S512x256_0_0).toLoadRect wq (ix2 m t)
      = wq (ix2 m t) := by
  show wq _ = wq _
  congr 1; funext a; apply Fin.ext
  fin_cases a
  · show 0 + 1 * m.1 = m.1; omega
  · show 0 + 1 * t.1 = t.1; omega

theorem qOf_at (b : Fin 2) (i t : Fin 256) : qOf x wq b (ix2 i t) = query x wq b i t := by
  unfold qOf k0_pay1 query
  pointwise
  exact Finset.sum_congr rfl fun m _ => congrArg₂ (· * ·) (x_at x b i m) (wq_at wq m t)

theorem kBlk_at (b : Fin 2) (h q : Fin 4) (r d : Fin 64) : kBlk k b h q (ix4 0 r 0 d) = k (ix4 b (keyRow q r) h d) := by
  show k _ = k _
  congr 1; funext a; apply Fin.ext
  fin_cases a
  · show b.1 + 1 * 0 = b.1; omega
  · show 64 * q.1 + 1 * r.1 = 64 * q.1 + r.1; omega
  · show h.1 + 1 * 0 = h.1; omega
  · show 0 + 1 * d.1 = d.1; omega

theorem vBlk_at (b : Fin 2) (h q : Fin 4) (r d : Fin 64) : vBlk v b h q (ix4 0 r 0 d) = v (ix4 b (keyRow q r) h d) := kBlk_at v b h q r d

/-- The score of row `r` of block `q` of a device's keys. -/
def sc (b : Fin 2) (h : Fin 4) (i : Fin 256) (q : Fin 4) (r : Fin 64) : EReal :=
  score x wq b h i fun d => k (ix4 b (keyRow q r) h d)

theorem eBlk_at (b : Fin 2) (h q : Fin 4) (r s : Fin 64) :
    eBlk x wq k b h q (ix2 r s) = Ideal.exp (sc x wq k b h (keyRow q s) q r) := by
  unfold eBlk sc score
  pointwise
  rw [eighth]
  refine congrArg (fun z => Ideal.exp (z * _)) (Finset.sum_congr rfl fun d _ => ?_)
  rw [kBlk_at, mul_comm]
  exact congrArg (· * _) (qOf_at x wq b (keyRow q s) (col h d))

theorem nBlk_at (b : Fin 2) (h q : Fin 4) (d s : Fin 64) :
    nBlk x wq k v b h q (ix2 d s) = ∑ r : Fin 64, v (ix4 b (keyRow q r) h d) * Ideal.exp (sc x wq k b h (keyRow q s) q r) := by
  unfold nBlk
  pointwise
  exact Finset.sum_congr rfl fun r _ => congrArg₂ (· * ·) (vBlk_at v b h q r d) (eBlk_at x wq k b h q r s)

theorem dBlk_at (b : Fin 2) (h q : Fin 4) (s : Fin 64) :
    dBlk x wq k b h q (ix1 s) = ∑ r : Fin 64, Ideal.exp (sc x wq k b h (keyRow q s) q r) := by
  unfold dBlk
  pointwise
  exact Finset.sum_congr rfl fun r _ => eBlk_at x wq k b h q r s

/-- The four times 64 queries: query `64 q + s`. -/
theorem NUM0_ix (b : Fin 2) (h q : Fin 4) (d s : Fin 64) :
    NUM0 x wq k v (ix4 b h d (keyRow q s)) = ∑ r : Fin 64, v (ix4 b (keyRow q r) h d) * Ideal.exp (sc x wq k b h (keyRow q s) q r) := by
  rw [NUM0_at x wq k v b h q d s _ rfl rfl rfl rfl, ← nBlk_at]
  congr 1; funext a; fin_cases a <;> rfl

/-- Four times the batch plus the head. -/
def bh (b : Fin 2) (h : Fin 4) : Fin 8 := ⟨b.1 * 4 + h.1, by omega⟩

theorem DEN0_ix (b : Fin 2) (h q : Fin 4) (s : Fin 64) :
    DEN0 x wq k (ix2 (bh b h) (keyRow q s)) = ∑ r : Fin 64, Ideal.exp (sc x wq k b h (keyRow q s) q r) := by
  rw [DEN0_at x wq k b h q s _ rfl rfl, ← dBlk_at]
  congr 1; funext a; fin_cases a; rfl

end Blocks

/-! ## The all-reduce -/

/-- The devices whose numbers agree with `c`'s from bit `s` on: those whose sums device `c` holds after `s` stages. -/
def cube (s : ℕ) (c : Dev nD) : Finset (Dev nD) := Finset.univ.filter fun e => e.val / 2 ^ s = c.val / 2 ^ s

theorem cube_zero (c : Dev nD) : cube 0 c = {c} := by
  ext e
  simp only [cube, pow_zero, Nat.div_one, Finset.mem_filter, Finset.mem_univ, true_and, Finset.mem_singleton]
  exact Fin.val_inj

theorem cube_succ5 : ∀ (s : Fin 5) (c e : Fin 32), (e.val / 2 ^ (s.val + 1) = c.val / 2 ^ (s.val + 1) ↔
    e.val / 2 ^ s.val = c.val / 2 ^ s.val ∨ e.val / 2 ^ s.val = (c.val ^^^ 2 ^ s.val) % 32 / 2 ^ s.val) ∧
    ¬(e.val / 2 ^ s.val = c.val / 2 ^ s.val ∧ e.val / 2 ^ s.val = (c.val ^^^ 2 ^ s.val) % 32 / 2 ^ s.val) := by decide +kernel

theorem cube_succ (s : ℕ) (h : s < 5) (c : Dev nD) : cube (s + 1) c = cube s c ∪ cube s (p s c) := by
  ext e
  simp only [cube, Finset.mem_union, Finset.mem_filter, Finset.mem_univ, true_and]
  exact (cube_succ5 ⟨s, h⟩ c e).1

theorem cube_disjoint (s : ℕ) (h : s < 5) (c : Dev nD) : Disjoint (cube s c) (cube s (p s c)) := by
  refine Finset.disjoint_left.2 fun e h1 h2 => (cube_succ5 ⟨s, h⟩ c e).2 ⟨?_, ?_⟩
  · exact (Finset.mem_filter.1 h1).2
  · exact (Finset.mem_filter.1 h2).2

theorem cube_five (c : Dev nD) : cube 5 c = Finset.univ := by
  refine Finset.filter_true_of_mem fun e _ => ?_
  have he : e.val < 32 := e.2
  have hc : c.val < 32 := c.2
  omega

/-- After the five stages every device holds the sum over all the devices. -/
theorem hypercube (g : Dev nD → EReal) (G : ℕ → Dev nD → EReal) (h0 : ∀ c, G 0 c = g c)
    (hs : ∀ s c, G (s + 1) c = G s c + G s (p s c)) (c : Dev nD) : G 5 c = ∑ e, g e := by
  have key : ∀ s, s ≤ 5 → ∀ c, G s c = ∑ e ∈ cube s c, g e := by
    intro s
    induction s with
    | zero => intro _ c; rw [h0, cube_zero, Finset.sum_singleton]
    | succ s ih =>
      intro h c
      rw [hs, ih (by omega), ih (by omega), cube_succ s (by omega), Finset.sum_union (cube_disjoint s (by omega) c)]
  rw [key 5 le_rfl, cube_five]

theorem NUM_sum (n0 : Dev nD → Vec Ideal S2x4x64x256 .f32) (c : Dev nD) (y : S2x4x64x256.Idx) : NUM n0 5 c y = ∑ e, n0 e y :=
  hypercube (fun e => n0 e y) (fun s e => NUM n0 s e y) (fun _ => rfl) (fun _ _ => rfl) c

theorem DEN_sum (d0 : Dev nD → Vec Ideal S8x256 .f32) (c : Dev nD) (y : S8x256.Idx) : DEN d0 5 c y = ∑ e, d0 e y :=
  hypercube (fun e => d0 e y) (fun s e => DEN d0 s e y) (fun _ => rfl) (fun _ _ => rfl) c

/-! ## The output -/

section Out
variable (N : Vec Ideal S2x4x64x256 .f32) (D : Vec Ideal S8x256 .f32) (wo : Vec Ideal S256x512 .f32)

theorem num_at (b : Fin 2) (h : Fin 4) (d : Fin 64) (i : Fin 256) :
    View.readAt (Elt Ideal) (View.whole cc0_scratch0) (rHN b h).toLoadRect N (ix4 0 0 d i) = N (ix4 b h d i) := by
  show N _ = N _
  congr 1; funext a; apply Fin.ext
  fin_cases a
  · show b.1 + 1 * 0 = b.1; omega
  · show h.1 + 1 * 0 = h.1; omega
  · show 0 + 1 * d.1 = d.1; omega
  · show 0 + 1 * i.1 = i.1; omega

theorem den_at (b : Fin 2) (h : Fin 4) (i : Fin 256) :
    View.readAt (Elt Ideal) (View.whole cc0_scratch1) (rHD b h).toLoadRect D (ix2 0 i) = D (ix2 (bh b h) i) := by
  show D _ = D _
  congr 1; funext a; apply Fin.ext
  fin_cases a
  · show b.1 * 4 + h.1 + 1 * 0 = b.1 * 4 + h.1; omega
  · show 0 + 1 * i.1 = i.1; omega

theorem wo_at (h : Fin 4) (d : Fin 64) (n : Fin 512) :
    View.readAt (Elt Ideal) (View.whole cc0_stg4_0) (rHW h).toLoadRect wo (ix2 d n) = wo (ix2 (col h d) n) := by
  show wo _ = wo _
  congr 1; funext a; apply Fin.ext
  fin_cases a
  · show 64 * h.1 + 1 * d.1 = 64 * h.1 + d.1; omega
  · show 0 + 1 * n.1 = n.1; omega

theorem headVal_at (b : Fin 2) (h : Fin 4) (i : Fin 256) (n : Fin 512) :
    headVal N D wo b h (ix2 i n) = ∑ d : Fin 64, Ideal.div (N (ix4 b h d i)) (D (ix2 (bh b h) i)) * wo (ix2 (col h d) n) := by
  unfold headVal headOut
  pointwise
  exact Finset.sum_congr rfl fun d _ =>
    congrArg₂ (· * ·) (congrArg₂ Ideal.div (num_at N b h d i) (den_at D b h i)) (wo_at wo h d n)

theorem OUT_ix (b : Fin 2) (i : Fin 256) (n : Fin 512) :
    OUT N D wo (ix3 b i n)
      = ∑ h : Fin 4, ∑ d : Fin 64, Ideal.div (N (ix4 b h d i)) (D (ix2 (bh b h) i)) * wo (ix2 (col h d) n) := by
  have hi : at512 i n = ix2 i n := by funext a; fin_cases a <;> rfl
  rw [OUT_at N D wo b i n _ rfl rfl rfl, hi]
  unfold batchVal
  pointwise
  simp only [headVal_at, Fin.sum_univ_four]

end Out

end Cert.KernelIdeal.AllReduce
-- ==== Proof.Ref.lean ====
/-
# The reference, stage by stage

The reference's result as a composition of named stages, in its own operations: the mask, the scores, the softmax, the
average of the values and the projection.
-/
module

public import proofs.«01_k».proof.Proof.Gen.ReferenceIdeal.Run
public import proofs.«01_k».proof.Proof.Score

@[expose] public section

noncomputable section

namespace Cert.ReferenceIdeal.Stages

open Cert.ReferenceIdeal Cert.ReferenceIdeal.Gen
open Idealize.ShloMosaic
open Cert.Attention

/-! ## The mask -/

section Words
variable {s : Shape} (h : S_.BroadcastsInDim s (![] : Fin 0 → Fin s.rank)) (x : IVec s 32)

/-- `x // 64`, as the reference spells it. -/
def div64 : IVec s 32 :=
  select (andi (cmpi .ne (signi x) (broadcastInDim s ![] h (signi (id (constantI S_ 32 64#32)))))
      (cmpi .ne (Host.remsi x (broadcastInDim s ![] h (id (constantI S_ 32 64#32)))) (broadcastInDim s ![] h (constantI S_ 32 0#32))))
    (subi (Host.divsi x (broadcastInDim s ![] h (id (constantI S_ 32 64#32)))) (broadcastInDim s ![] h (constantI S_ 32 1#32)))
    (Host.divsi x (broadcastInDim s ![] h (id (constantI S_ 32 64#32))))

/-- The divisor of `x % 4`: 4, or 1 were it 0. -/
def four : IVec S_ 32 := select (cmpi .eq (id (constantI S_ 32 4#32)) (constantI S_ 32 0#32)) (constantI S_ 32 1#32) (id (constantI S_ 32 4#32))

/-- `x % 4`, as the reference spells it. -/
def mod4 : IVec s 32 :=
  select (andi (cmpi .ne (cmpi .slt (Host.remsi x (broadcastInDim s ![] h four)) (broadcastInDim s ![] h (constantI S_ 32 0#32)))
        (broadcastInDim s ![] h (cmpi .slt four (constantI S_ 32 0#32))))
      (cmpi .ne (Host.remsi x (broadcastInDim s ![] h four)) (broadcastInDim s ![] h (constantI S_ 32 0#32))))
    (addi (Host.remsi x (broadcastInDim s ![] h four)) (broadcastInDim s ![] h four))
    (Host.remsi x (broadcastInDim s ![] h four))

end Words

def qb : IVec S256x1 32 := broadcastInDim S256x1 ![0] bcast_S256_S256x1_0 (div64 bcast_S_S256 (iotaInDim S256 32 0))
def kb : IVec S1x8192 32 := broadcastInDim S1x8192 ![1] bcast_S8192_S1x8192_1 (div64 bcast_S_S8192 (iotaInDim S8192 32 0))

/-- Which keys a query keeps. -/
def mask : IVec S256x8192 1 :=
  ori (cmpi .eq (broadcastInDim S256x8192 ![0, 1] bcast_S256x1_S256x8192_0_1 qb) (broadcastInDim S256x8192 ![0, 1] bcast_S1x8192_S256x8192_0_1 kb))
    (cmpi .eq (broadcastInDim S256x8192 ![0, 1] bcast_S1x8192_S256x8192_0_1 (mod4 bcast_S_S1x8192 kb))
      (broadcastInDim S256x8192 ![0, 1] bcast_S256x1_S256x8192_0_1 (mod4 bcast_S_S256x1 qb)))

/-- Which queries keep a key. -/
def kept : IVec S256 1 := Host.reduce IntOp.ori mask (constantI S_ 1 0#1) reducesTo_S256x8192_S256_d1 h_S_

/-! ## The attention -/

section
variable (x : FVec Ideal S2x256x512 .f32) (wq : FVec Ideal S512x256 .f32) (k v : FVec Ideal S2x8192x4x64 .f32) (wo : FVec Ideal S256x512 .f32)

def queries : FVec Ideal S2x256x4x64 .f32 :=
  shapeCast S2x256x4x64 (Host.dotGeneral dot_S2x256x512_S512x256_S2x256x256_2_0_01_1_n_n none x wq : FVec Ideal S2x256x256 .f32)
    shapeCasts_S2x256x256_S2x256x4x64

/-- The scaled scores, of the queries `q`. -/
def scores (q : FVec Ideal S2x256x4x64 .f32) : FVec Ideal S2x4x256x8192 .f32 :=
  mulf (Host.dotGeneral dot_S2x256x4x64_S2x8192x4x64_S2x4x256x8192_3_3_1_1_02_02 none q k)
    (broadcastInDim S2x4x256x8192 ![] bcast_S_S2x4x256x8192 (constant S_ .f32 0x3E000000#32))

/-- The scores `s` with minus infinity at the keys that the mask `M` drops. -/
def maskedScores (M : IVec S256x8192 1) (s : FVec Ideal S2x4x256x8192 .f32) : FVec Ideal S2x4x256x8192 .f32 :=
  select (broadcastInDim S2x4x256x8192 ![0, 1, 2, 3] bcast_S1x1x256x8192_S2x4x256x8192_0_1_2_3
      (broadcastInDim S1x1x256x8192 ![2, 3] bcast_S256x8192_S1x1x256x8192_2_3 M))
    s (broadcastInDim S2x4x256x8192 ![] bcast_S_S2x4x256x8192 (id (constant S_ .f32 0xFF800000#32)))

/-- The greatest of a query's scores. -/
def greatest (s : FVec Ideal S2x4x256x8192 .f32) : FVec Ideal S2x4x256 .f32 :=
  Host.reduce FloatOps.maximumf s (constant S_ .f32 0xFF800000#32) reducesTo_S2x4x256x8192_S2x4x256_d3 h_S_

/-- The exponentials of the scores `s` less the greatest, `g`. -/
def weights (s : FVec Ideal S2x4x256x8192 .f32) (g : FVec Ideal S2x4x256 .f32) : FVec Ideal S2x4x256x8192 .f32 :=
  Host.exp (subf s (broadcastInDim S2x4x256x8192 ![0, 1, 2, 3] bcast_S2x4x256x1_S2x4x256x8192_0_1_2_3
    (broadcastInDim S2x4x256x1 ![0, 1, 2] bcast_S2x4x256_S2x4x256x1_0_1_2 g)))

/-- The sum of a query's weights. -/
def total (w : FVec Ideal S2x4x256x8192 .f32) : FVec Ideal S2x4x256 .f32 :=
  Host.reduceAdd w (constant S_ .f32 0x00000000#32) reducesTo_S2x4x256x8192_S2x4x256_d3 h_S_

/-- The divisor of the weights: their sum `t`, or one for a query that keeps no key by `K`. -/
def divisor (K : IVec S256 1) (t : FVec Ideal S2x4x256 .f32) : FVec Ideal S2x4x256x1 .f32 :=
  select (broadcastInDim S2x4x256x1 ![0, 1, 2, 3] bcast_S1x1x256x1_S2x4x256x1_0_1_2_3
      (broadcastInDim S1x1x256x1 ![2] bcast_S256_S1x1x256x1_2 K))
    (broadcastInDim S2x4x256x1 ![0, 1, 2] bcast_S2x4x256_S2x4x256x1_0_1_2 t)
    (broadcastInDim S2x4x256x1 ![] bcast_S_S2x4x256x1 (id (constant S_ .f32 0x3F800000#32)))

/-- The weights `w` over their divisor `D`, zero for a query that keeps no key by `K`. -/
def softmaxed (K : IVec S256 1) (w : FVec Ideal S2x4x256x8192 .f32) (D : FVec Ideal S2x4x256x1 .f32) : FVec Ideal S2x4x256x8192 .f32 :=
  select (broadcastInDim S2x4x256x8192 ![0, 1, 2, 3] bcast_S1x1x256x1_S2x4x256x8192_0_1_2_3
      (broadcastInDim S1x1x256x1 ![2] bcast_S256_S1x1x256x1_2 K))
    (Host.divf w (broadcastInDim S2x4x256x8192 ![0, 1, 2, 3] bcast_S2x4x256x1_S2x4x256x8192_0_1_2_3 D))
    (broadcastInDim S2x4x256x8192 ![] bcast_S_S2x4x256x8192 (id (constant S_ .f32 0x00000000#32)))

/-- The average of the values by the weights `w`. -/
def context (w : FVec Ideal S2x4x256x8192 .f32) : FVec Ideal S2x4x64x256 .f32 :=
  Host.dotGeneral dot_S2x8192x4x64_S2x4x256x8192_S2x4x64x256_1_3_3_2_02_01 none v w

/-- The projection of the averages `a`. -/
def project (a : FVec Ideal S2x4x64x256 .f32) : FVec Ideal S2x256x512 .f32 :=
  Host.dotGeneral dot_S2x256x256_S256x512_S2x256x512_2_0_01_1_n_n none
    (shapeCast S2x256x256 (transpose S2x256x4x64 [0, 3, 1, 2] a transposes_S2x4x64x256_S2x256x4x64_0_3_1_2)
      shapeCasts_S2x256x4x64_S2x256x256) wo

/-- The scores that the softmax is taken of. -/
def allScores : FVec Ideal S2x4x256x8192 .f32 := maskedScores mask (scores k (queries x wq))

def allWeights : FVec Ideal S2x4x256x8192 .f32 := weights (allScores x wq k) (greatest (allScores x wq k))

/-- The whole reference. -/
def output : FVec Ideal S2x256x512 .f32 :=
  project wo (context v (softmaxed kept (allWeights x wq k) (divisor kept (total (allWeights x wq k)))))

end

set_option maxRecDepth 100000 in
theorem result_eq (m : (ℓ : Loc nD τ sig) → Buf (Elt Ideal) ℓ) (c : Dev nD) :
    Value.res_main_v39 m c = output (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v39
  rfl

end Cert.ReferenceIdeal.Stages
-- ==== Proof.RefValue.lean ====
/-
# The reference over the reals

The stages of the reference read at an index: the mask keeps the keys of every fourth block, and the result is the
projection of the softmax averages.
-/
module

public import proofs.«01_k».proof.Proof.Ref

@[expose] public section

noncomputable section

namespace Cert.ReferenceIdeal.Stages

open Cert.ReferenceIdeal Cert.ReferenceIdeal.Gen
open Idealize.ShloMosaic
open Cert.Attention

/-! ## The mask -/

theorem S_S : S_.BroadcastsInDim S_ (![] : Fin 0 → Fin S_.rank) := by decide

theorem div64_word : ∀ n : Fin 8192, div64 S_S (fun _ => BitVec.ofNat 32 n.val) ix0 = BitVec.ofNat 32 (n.val / 64) := by
  decide +kernel

theorem mod4_word : ∀ n : Fin 128, mod4 S_S (fun _ => BitVec.ofNat 32 n.val) ix0 = BitVec.ofNat 32 (n.val % 4) := by
  decide +kernel

theorem div64_at {s : Shape} (h : S_.BroadcastsInDim s (![] : Fin 0 → Fin s.rank)) (x : IVec s 32) (i : s.Idx) (n : ℕ) (hn : n < 8192)
    (hx : x i = BitVec.ofNat 32 n) : div64 h x i = BitVec.ofNat 32 (n / 64) := by
  rw [← div64_word ⟨n, hn⟩]
  show _ = div64 S_S (fun _ => BitVec.ofNat 32 n) ix0
  rw [← hx]
  rfl

theorem mod4_at {s : Shape} (h : S_.BroadcastsInDim s (![] : Fin 0 → Fin s.rank)) (x : IVec s 32) (i : s.Idx) (n : ℕ) (hn : n < 128)
    (hx : x i = BitVec.ofNat 32 n) : mod4 h x i = BitVec.ofNat 32 (n % 4) := by
  rw [← mod4_word ⟨n, hn⟩]
  show _ = mod4 S_S (fun _ => BitVec.ofNat 32 n) ix0
  rw [← hx]
  rfl

theorem qb_at (i : Fin 256) : qb (ix2 i 0) = BitVec.ofNat 32 (i.val / 64) := by
  unfold qb
  pointwise
  exact div64_at _ _ _ i.val (by omega) rfl

theorem kb_at (j : Fin 8192) : kb (ix2 0 j) = BitVec.ofNat 32 (j.val / 64) := by
  unfold kb
  pointwise
  exact div64_at _ _ _ j.val (by omega) rfl

/-- The block of a query. -/
def blockOf (i : Fin 256) : Fin 4 := ⟨i.val / 64, by omega⟩

theorem mask_words : ∀ (q : Fin 4) (k : Fin 128),
    IntOp.ori (IntOp.cmpi .eq (BitVec.ofNat 32 q.val) (BitVec.ofNat 32 k.val))
      (IntOp.cmpi .eq (BitVec.ofNat 32 (k.val % 4)) (BitVec.ofNat 32 (q.val % 4))) = 1#1 ↔ k.val % 4 = q.val := by
  decide +kernel

theorem mask_at (i : Fin 256) (j : Fin 8192) : mask (ix2 i j) = 1#1 ↔ keep (blockOf i) j := by
  refine Iff.trans ?_ (mask_words (blockOf i) ⟨j.val / 64, by omega⟩)
  have hq := mod4_at bcast_S_S256x1 qb (ix2 i 0) (i.val / 64) (by omega) (qb_at i)
  have hk := mod4_at bcast_S_S1x8192 kb (ix2 0 j) (j.val / 64) (by omega) (kb_at j)
  unfold mask
  pointwise
  rw [qb_at, kb_at, hq, hk]
  rfl

theorem foldl_ori_one {ι : Type} (f : ι → BitVec 1) : ∀ (l : List ι) (a : BitVec 1), (a = 1#1 ∨ ∃ n ∈ l, f n = 1#1) →
    l.foldl (fun r n => IntOp.ori r (f n)) a = 1#1
  | [], _, .inl h => h
  | [], _, .inr ⟨_, h, _⟩ => nomatch h
  | n :: l, a, h => by
    refine foldl_ori_one f l _ ?_
    have one : ∀ a b : BitVec 1, a = 1#1 ∨ b = 1#1 → IntOp.ori a b = 1#1 := by decide
    rcases h with h | ⟨n', hn, h⟩
    · exact .inl (one _ _ (.inl h))
    · rcases List.mem_cons.1 hn with rfl | hn
      · exact .inl (one _ _ (.inr h))
      · exact .inr ⟨n', hn, h⟩

/-- Every query keeps a key: the key of its own number. -/
theorem kept_at (i : Fin 256) : kept (ix1 i) = 1#1 := by
  unfold kept
  rw [Host.reduce_eq_foldl]
  refine foldl_ori_one _ _ _ (.inr ⟨ix2 i ⟨i.val, by omega⟩, ?_, ?_⟩)
  · rw [List.mem_filter]
    refine ⟨List.mem_map.2 ⟨S256x8192.rowMajor _, List.mem_finRange _, Equiv.symm_apply_apply _ _⟩, ?_⟩
    rw [decide_eq_true_eq]
    funext a; fin_cases a; rfl
  · rw [mask_at]
    show i.val / 64 % 4 = i.val / 64
    omega

/-! ## The attention -/

section
variable (x : FVec Ideal S2x256x512 .f32) (wq : FVec Ideal S512x256 .f32) (k v : FVec Ideal S2x8192x4x64 .f32) (wo : FVec Ideal S256x512 .f32)

theorem queries_at (b : Fin 2) (i : Fin 256) (h : Fin 4) (d : Fin 64) : queries x wq (ix4 b i h d) = query x wq b i (col h d) := by
  unfold queries query
  pointwise
  have e : (⟨h.val * 64 + d.val, by omega⟩ : Fin 256) = col h d := Fin.ext (by show h.val * 64 + d.val = 64 * h.val + d.val; omega)
  rw [e]

/-- The score of query `i` against key `j`. -/
def sc (b : Fin 2) (h : Fin 4) (i : Fin 256) (j : Fin 8192) : EReal := score x wq b h i fun d => k (ix4 b j h d)

theorem scores_at (b : Fin 2) (h : Fin 4) (i : Fin 256) (j : Fin 8192) : scores k (queries x wq) (ix4 b h i j) = sc x wq k b h i j := by
  unfold scores sc score
  pointwise
  rw [eighth]
  simp only [queries_at]

theorem maskedScores_at (M : IVec S256x8192 1) (s : FVec Ideal S2x4x256x8192 .f32) (b : Fin 2) (h : Fin 4) (i : Fin 256) (j : Fin 8192) :
    maskedScores M s (ix4 b h i j) = if M (ix2 i j) = 1#1 then s (ix4 b h i j) else ⊥ := by
  unfold maskedScores
  pointwise
  rw [← bottom]
  rfl

theorem allScores_at (b : Fin 2) (h : Fin 4) (i : Fin 256) (j : Fin 8192) :
    allScores x wq k (ix4 b h i j) = masked (keep (blockOf i)) (sc x wq k b h i) j := by
  unfold allScores masked
  rw [maskedScores_at, scores_at]
  exact if_congr (mask_at i j) rfl rfl

theorem greatest_at (b : Fin 2) (h : Fin 4) (i : Fin 256) :
    greatest (allScores x wq k) (ix3 b h i) = top (keep (blockOf i)) (sc x wq k b h i) := by
  unfold greatest top
  pointwise
  rw [bottom]
  exact congrArg (fun f => Finset.fold max ⊥ f Finset.univ) (funext fun j => allScores_at x wq k b h i j)

theorem weights_at (b : Fin 2) (h : Fin 4) (i : Fin 256) (j : Fin 8192) :
    allWeights x wq k (ix4 b h i j) = weight (keep (blockOf i)) (sc x wq k b h i) j := by
  unfold allWeights weights weight
  pointwise
  rw [greatest_at, allScores_at]

theorem total_at (b : Fin 2) (h : Fin 4) (i : Fin 256) :
    total (allWeights x wq k) (ix3 b h i) = ∑ j, weight (keep (blockOf i)) (sc x wq k b h i) j := by
  unfold total
  pointwise
  simp only [weights_at]

theorem divisor_at (K : IVec S256 1) (t : FVec Ideal S2x4x256 .f32) (b : Fin 2) (h : Fin 4) (i : Fin 256) (hK : K (ix1 i) = 1#1) :
    divisor K t (ix4 b h i 0) = t (ix3 b h i) := by
  unfold divisor
  pointwise
  rw [hK]
  rfl

theorem softmaxed_at (K : IVec S256 1) (w : FVec Ideal S2x4x256x8192 .f32) (D : FVec Ideal S2x4x256x1 .f32) (b : Fin 2) (h : Fin 4)
    (i : Fin 256) (j : Fin 8192) (hK : K (ix1 i) = 1#1) :
    softmaxed K w D (ix4 b h i j) = Ideal.div (w (ix4 b h i j)) (D (ix4 b h i 0)) := by
  unfold softmaxed
  pointwise
  rw [hK]
  rfl

theorem context_at (w : FVec Ideal S2x4x256x8192 .f32) (b : Fin 2) (h : Fin 4) (d : Fin 64) (i : Fin 256) :
    context v w (ix4 b h d i) = ∑ j, v (ix4 b j h d) * w (ix4 b h i j) := by
  unfold context
  pointwise

theorem project_at (a : FVec Ideal S2x4x64x256 .f32) (b : Fin 2) (i : Fin 256) (n : Fin 512) :
    project wo a (ix3 b i n) = ∑ h : Fin 4, ∑ d : Fin 64, a (ix4 b h d i) * wo (ix2 (col h d) n) := by
  unfold project
  pointwise
  rw [sum_col]
  refine Finset.sum_congr rfl fun h _ => Finset.sum_congr rfl fun d _ => ?_
  have e1 : (⟨(col h d).val / 64, by omega⟩ : Fin 4) = h := Fin.ext (by show (64 * h.val + d.val) / 64 = h.val; omega)
  have e2 : (⟨(col h d).val % 64, by omega⟩ : Fin 64) = d := Fin.ext (by show (64 * h.val + d.val) % 64 = d.val; omega)
  rw [e1, e2]

/-- The reference at an index: the softmax averages of the kept keys' values, projected. -/
theorem output_at (b : Fin 2) (i : Fin 256) (n : Fin 512) :
    output x wq k v wo (ix3 b i n)
      = ∑ h : Fin 4, ∑ d : Fin 64, (∑ j, v (ix4 b j h d) * Ideal.div (weight (keep (blockOf i)) (sc x wq k b h i) j)
          (∑ j, weight (keep (blockOf i)) (sc x wq k b h i) j)) * wo (ix2 (col h d) n) := by
  unfold output
  rw [project_at]
  refine Finset.sum_congr rfl fun h _ => Finset.sum_congr rfl fun d _ => congrArg (fun z => z * wo (ix2 (col h d) n)) ?_
  rw [context_at]
  refine Finset.sum_congr rfl fun j _ => congrArg (fun z => v (ix4 b j h d) * z) ?_
  refine (softmaxed_at _ _ _ b h i j (kept_at i)).trans (congrArg₂ Ideal.div (weights_at x wq k b h i j) ?_)
  exact (divisor_at _ _ b h i (kept_at i)).trans (total_at x wq k b h i)

end

end Cert.ReferenceIdeal.Stages
-- ==== Proof.Agree.lean ====
/-
# The two results are the same

The kernel's output on any device is the reference's, where the scores are real: both at an index are the same quotient of
sums over the kept keys, projected.
-/
module

public import proofs.«01_k».proof.Proof.KernelIdeal.Value
public import proofs.«01_k».proof.Proof.RefValue
public import Idealize.ShloMosaic.Lib.Layout

@[expose] public section

noncomputable section

namespace Cert.Attention

open Idealize.ShloMosaic
open Cert.KernelIdeal Cert.KernelIdeal.AllReduce
open Cert.ReferenceIdeal.Stages (output output_at blockOf)

abbrev Whole : Shape := ⟨4, ![2, 8192, 4, 64]⟩

/-- A device's rows among all the keys. -/
theorem block_at (A : Whole.Idx → EReal) (c : Fin 32) (b : Fin 2) (q : Fin 4) (r : Fin 64) (h : Fin 4) (d : Fin 64) :
    (Layout.block ⟨4, ![2, 256, 4, 64]⟩ Whole 1 32 c A) (ix4 b (keyRow q r) h d) = A (ix4 b (keyAt c q r) h d) := by
  rw [Layout.block_apply]
  congr 1; funext a; apply Fin.ext
  rw [Layout.Tiles.idx_val]
  fin_cases a
  · rfl
  · show c.val * 256 + (64 * q.val + r.val) = 256 * c.val + 64 * q.val + r.val; omega
  · rfl
  · rfl

/-- Every key lies in some device's part. -/
theorem real_of_parts (A : Whole.Idx → EReal)
    (h : ∀ (c : Fin 32) y, IsReal ((Layout.block ⟨4, ![2, 256, 4, 64]⟩ Whole 1 32 c A) y)) (y : Whole.Idx) : IsReal (A y) := by
  have h1 : (y 1).val < 8192 := (y 1).2
  let c : Fin 32 := ⟨(y 1).val / 256, by omega⟩
  let q : Fin 4 := ⟨(y 1).val / 64 % 4, by omega⟩
  let r : Fin 64 := ⟨(y 1).val % 64, by omega⟩
  have e : keyAt c q r = y 1 :=
    Fin.ext (by show 256 * ((y 1).val / 256) + 64 * ((y 1).val / 64 % 4) + (y 1).val % 64 = (y 1).val; omega)
  have key : ix4 (y 0) (keyAt c q r) (y 2) (y 3) = y :=
    (congrArg (fun j : Fin 8192 => (ix4 (y 0) j (y 2) (y 3) : Whole.Idx)) e).trans (eq_ix4 y).symm
  have h' := (congrArg IsReal (block_at A c (y 0) q r (y 2) (y 3))).mp (h c _)
  exact (congrArg (fun z => IsReal (A z)) key).mp h'

section
variable (x : FVec Ideal S2x256x512 .f32) (wq : FVec Ideal S512x256 .f32) (K V : Whole.Idx → EReal) (wo : FVec Ideal S256x512 .f32)

/-- A device's part of the keys or the values. -/
def part (A : Whole.Idx → EReal) (c : Dev nD) : Vec Ideal S2x256x4x64 .f32 := Layout.block ⟨4, ![2, 256, 4, 64]⟩ Whole 1 32 c A

/-- The numerators, summed over the devices. -/
def nums (c : Dev nD) : Vec Ideal S2x4x64x256 .f32 := NUM (fun e => NUM0 x wq (part K e) (part V e)) 5 c
/-- The denominators, summed over the devices. -/
def dens (c : Dev nD) : Vec Ideal S8x256 .f32 := DEN (fun e => DEN0 x wq (part K e)) 5 c

theorem sc_part (c : Dev nD) (b : Fin 2) (h : Fin 4) (i : Fin 256) (q : Fin 4) (r : Fin 64) :
    sc x wq (part K c) b h i q r = Cert.ReferenceIdeal.Stages.sc x wq K b h i (keyAt c q r) := by
  unfold sc Cert.ReferenceIdeal.Stages.sc
  exact congrArg (score x wq b h i) (funext fun d => block_at K c b q r h d)

/-- A query by its block and its place there. -/
theorem keyRow_blockOf (i : Fin 256) : keyRow (blockOf i) ⟨i.val % 64, Nat.mod_lt _ (by decide)⟩ = i :=
  Fin.ext (by show 64 * (i.val / 64) + i.val % 64 = i.val; omega)

theorem nums_at (c : Dev nD) (b : Fin 2) (h : Fin 4) (d : Fin 64) (i : Fin 256) :
    nums x wq K V c (ix4 b h d i)
      = ∑ j, if keep (blockOf i) j then V (ix4 b j h d) * Ideal.exp (Cert.ReferenceIdeal.Stages.sc x wq K b h i j) else 0 := by
  unfold nums
  rw [NUM_sum, sum_keep]
  refine Finset.sum_congr rfl fun e _ => ?_
  have hi := NUM0_ix x wq (part K e) (part V e) b h (blockOf i) d ⟨i.val % 64, Nat.mod_lt _ (by decide)⟩
  rw [keyRow_blockOf] at hi
  rw [hi]
  exact Finset.sum_congr rfl fun r _ => by rw [sc_part]; exact congrArg (· * _) (block_at V e b _ r h d)

theorem dens_at (c : Dev nD) (b : Fin 2) (h : Fin 4) (i : Fin 256) :
    dens x wq K c (ix2 (bh b h) i)
      = ∑ j, if keep (blockOf i) j then Ideal.exp (Cert.ReferenceIdeal.Stages.sc x wq K b h i j) else 0 := by
  unfold dens
  rw [DEN_sum, sum_keep]
  refine Finset.sum_congr rfl fun e _ => ?_
  have hi := DEN0_ix x wq (part K e) b h (blockOf i) ⟨i.val % 64, Nat.mod_lt _ (by decide)⟩
  rw [keyRow_blockOf] at hi
  rw [hi]
  exact Finset.sum_congr rfl fun r _ => by rw [sc_part]

/-- THE VALUES AGREE: each device's output is the reference's. -/
theorem agree (hx : ∀ y, IsReal (x y)) (hw : ∀ y, IsReal (wq y)) (hK : ∀ y, IsReal (K y)) (c : Dev nD) :
    OUT (nums x wq K V c) (dens x wq K c) wo = output x wq K V wo := by
  funext y
  rw [eq_ix3 y]
  refine (OUT_ix _ _ wo (y 0) (y 1) (y 2)).trans (Eq.trans ?_ (output_at x wq K V wo (y 0) (y 1) (y 2)).symm)
  refine Finset.sum_congr rfl fun h _ => Finset.sum_congr rfl fun d _ => congrArg (fun z => z * wo (ix2 (col h d) (y 2))) ?_
  refine Eq.trans (congrArg₂ Ideal.div (nums_at x wq K V c (y 0) h d (y 1)) (dens_at x wq K c (y 0) h (y 1))) ?_
  exact (softmax (keep (blockOf (y 1))) (fun j => score_real hx hw (fun d => hK _) _ _ _)
    ⟨keyAt 0 (blockOf (y 1)) 0, keep_keyAt _ _ _⟩ fun j => V (ix4 (y 0) j h d)).symm

end

end Cert.Attention

end
-- ==== Proof.Finite.lean ====
/-
# What the precondition says

Where `finite_scores` holds, the queries' input, their projection and the keys are real numbers.
-/
module

public import proofs.«01_k».proof.Pre_finite_scores_KernelIdeal
public import proofs.«01_k».proof.Proof.Score
public import Idealize.ShloMosaic.Lib.ReduceAll

@[expose] public section

noncomputable section

namespace Cert.Attention

open Idealize.ShloMosaic Cert.Pre_finite_scores_KernelIdeal

/-- An extended real whose absolute value compares below plus infinity is real. -/
theorem real_of_abs_lt {x : EReal}
    (h : FloatOps.cmpf (F := Ideal) (φ := .f32) .olt (FloatOps.hostAbsf (F := Ideal) (φ := .f32) x) (Ideal.ofBits .f32 0x7F800000#32) = 1#1) : IsReal x := by
  rw [infinite] at h
  have h' : BitVec.ofBool (decide (max x (-x) < (⊤ : EReal))) = 1#1 := h
  have lt : max x (-x) < (⊤ : EReal) := by
    by_contra hn
    rw [decide_eq_false hn] at h'
    exact absurd h' (by decide)
  obtain ⟨h1, h2⟩ := max_lt_iff.1 lt
  refine IsReal.of_ne ?_ h1.ne
  rintro rfl
  exact absurd h2 (by simp)

instance : Subsingleton S_.Idx := ⟨fun a b => funext fun i => i.elim0⟩

theorem real_of_finite [Facts] (x : FVec Ideal S2x256x512 .f32) (wq : FVec Ideal S512x256 .f32) (k v : FVec Ideal S2x256x4x64 .f32)
    (wo : FVec Ideal S256x512 .f32) (h : fn (F := Ideal) x wq k v wo = fun _ => 1#1) :
    (∀ y, IsReal (x y)) ∧ (∀ y, IsReal (wq y)) ∧ ∀ y, IsReal (k y) := by
  have h0 := congrFun h ix0
  unfold fn at h0
  obtain ⟨h1, hk⟩ := IntOp.andi_eq_one.1 h0
  obtain ⟨hx, hw⟩ := IntOp.andi_eq_one.1 h1
  exact ⟨fun y => real_of_abs_lt (Host.reduce_andi_all _ _ _ _ ix0 hx y), fun y => real_of_abs_lt (Host.reduce_andi_all _ _ _ _ ix0 hw y),
    fun y => real_of_abs_lt (Host.reduce_andi_all _ _ _ _ ix0 hk y)⟩

end Cert.Attention

end
-- ==== Proof.lean ====
/-
# The claims

Each is read off a run: of the kernel (`AllReduce.ends`, once at the bit-exact floats and once at the extended reals) and of
the reference (`Value.run`). That the two results are the same is `Cert.Attention.agree`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Ends
public import proofs.«01_k».proof.Proof.KernelIdeal.Ends
public import proofs.«01_k».proof.Proof.Gen.Pre_finite_scores_KernelIdeal
public import proofs.«01_k».proof.Proof.Gen.Pre_finite_scores_ReferenceIdeal
public import proofs.«01_k».proof.Proof.Agree
public import proofs.«01_k».proof.Proof.Finite
public import Idealize.ShloMosaic.Adequacy
public import Idealize.ShloMosaic.Init

@[expose] public section

noncomputable section

namespace Cert.Proof

open Idealize.ShloMosaic Idealize.SL.Sem

/-- The kernel terminates, leaves its arguments alone and all semaphores at zero. -/
theorem frame_kernel : Cert.quiescent_Kernel := fun m ρ _ =>
  (θ_run Cert.Kernel.defs _ _).mono (fun _ h => ⟨fun c => (h.1 c).2, h.2⟩) (Cert.Kernel.AllReduce.ends (F := Bits) m ρ)

/-- So does the kernel over the extended reals. -/
theorem frame_ideal : Cert.quiescent_KernelIdeal := fun m ρ _ =>
  (θ_run Cert.KernelIdeal.defs _ _).mono (fun _ h => ⟨fun c => (h.1 c).2, h.2⟩) (Cert.KernelIdeal.AllReduce.ends (F := Ideal) m ρ)

/-- And the reference, which has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

section Values

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

open Cert.KernelIdeal.AllReduce in
/-- A device's output, where every device holds its part of the whole arrays. -/
theorem output_of_parts (x : FVec Ideal Cert.KernelIdeal.S2x256x512 .f32) (wq : FVec Ideal Cert.KernelIdeal.S512x256 .f32)
    (K V : Cert.Attention.Whole.Idx → EReal) (wo : FVec Ideal Cert.KernelIdeal.S256x512 .f32)
    (hx : ∀ e, xW m e = x) (hw : ∀ e, wqW m e = wq) (hk : ∀ e, kW m e = Cert.Attention.part K e)
    (hv : ∀ e, vW m e = Cert.Attention.part V e) (ho : ∀ e, woW m e = wo) (c : Dev Cert.KernelIdeal.nD) :
    outW m c = OUT (Cert.Attention.nums x wq K V c) (Cert.Attention.dens x wq K c) wo := by
  have hn : n0 m = fun e => NUM0 x wq (Cert.Attention.part K e) (Cert.Attention.part V e) := by
    funext e; unfold n0; rw [hx, hw, hk, hv]
  have hd : d0 m = fun e => DEN0 x wq (Cert.Attention.part K e) := by
    funext e; unfold d0; rw [hx, hw, hk]
  unfold outW Cert.Attention.nums Cert.Attention.dens
  rw [hn, hd, ho]

end Values

/-- The kernel and the reference compute the same result over the extended reals, from finite queries' input, projection
    and keys. -/
theorem same_result : Cert.algebraic_KernelIdeal_ReferenceIdeal_pre_finite_scores_KernelIdeal := by
  intro m g m' g' hpre hargs
  have hreal := fun c => Cert.Attention.real_of_finite _ _ _ _ _ (hpre c)
  have hx := fun c => (hargs c).1
  have hw := fun c => (hargs c).2.1
  have hk := fun c => (hargs c).2.2.1
  have hv := fun c => (hargs c).2.2.2.1
  have ho := fun c => (hargs c).2.2.2.2
  have hK : ∀ y, Cert.Attention.IsReal (m' (((0 : Dev Cert.ReferenceIdeal.nD).tc : Thread Cert.ReferenceIdeal.nD Cert.ReferenceIdeal.τ).loc Cert.ReferenceIdeal.main_arg2) y) := by
    refine Cert.Attention.real_of_parts _ fun c y => ?_
    have := (hreal c).2.2 y
    rw [hk c] at this
    exact this
  have hX := (hreal 0).1
  have hW := (hreal 0).2.1
  rw [hx 0] at hX
  rw [hw 0] at hW
  refine ⟨_, (θ_run Cert.KernelIdeal.defs _ _).mono (fun r h c => ⟨(h.1 c).1.trans ?_, (h.1 c).2⟩) (Cert.KernelIdeal.AllReduce.ends (F := Ideal) m g),
    (θ_run Cert.ReferenceIdeal.defs _ _).mono (fun r h => h 0) (Cert.ReferenceIdeal.Value.run (F := Ideal) m' g')⟩
  refine (output_of_parts m _ _ _ _ _ (fun e => (Cert.KernelIdeal.AllReduce.xW_eq m e).trans (hx e))
    (fun e => (Cert.KernelIdeal.AllReduce.wqW_eq m e).trans (hw e)) (fun e => (Cert.KernelIdeal.AllReduce.kW_eq m e).trans (hk e))
    (fun e => (Cert.KernelIdeal.AllReduce.vW_eq m e).trans (hv e)) (fun e => (Cert.KernelIdeal.AllReduce.woW_eq m e).trans (ho e)) c).trans ?_
  exact (Cert.Attention.agree _ _ _ _ _ hX hW hK c).trans (Cert.ReferenceIdeal.Stages.result_eq m' 0).symm

theorem claim : Cert.Claim :=
  ⟨Cert.Kernel.Gen.facts, Cert.KernelIdeal.Gen.facts, Cert.ReferenceIdeal.Gen.facts, Cert.Pre_finite_scores_KernelIdeal.Gen.facts,
    Cert.Pre_finite_scores_ReferenceIdeal.Gen.facts, frame_kernel, frame_ideal, fun m ρ _ => frame_ideal m ρ trivial, frame_reference,
    fun m ρ _ => frame_reference m ρ trivial, trivial, same_result⟩

end Cert.Proof

end
